-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨3, ![1, 512, 512]⟩ ⟨3, ![16, 512, 512]⟩ 0 16 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x512x512 : Shape := ⟨3, ![1, 512, 512]⟩
abbrev S512x512 : Shape := ⟨2, ![512, 512]⟩
abbrev S15x32x512 : Shape := ⟨3, ![15, 32, 512]⟩
abbrev S30 : Shape := ⟨1, ![30]⟩
abbrev S_ : Shape := ⟨0, ![]⟩
abbrev S1 : Shape := ⟨1, ![1]⟩
abbrev S1x32x512 : Shape := ⟨3, ![1, 32, 512]⟩
abbrev S32x512 : Shape := ⟨2, ![32, 512]⟩

abbrev nBuf : Space → Nat
  | .hbm => 2
  | .vmem => 4
  | .smem => 0
  | _ => 0

abbrev bufTy : (tb : Table) → Fin (tcTables nBuf tb) → BufTy
  | .hbm, ⟨0, _⟩ => ⟨S1x512x512, .bf16⟩
  | .hbm, ⟨1, _⟩ => ⟨S512x512, .bf16⟩
  | .local _ .vmem, ⟨0, _⟩ => ⟨S1x512x512, .bf16⟩
  | .local _ .vmem, ⟨1, _⟩ => ⟨S512x512, .bf16⟩
  | .local _ .vmem, ⟨2, _⟩ => ⟨S512x512, .bf16⟩
  | .local _ .vmem, ⟨3, _⟩ => ⟨S15x32x512, .bf16⟩
  | _, _ => ⟨S1x512x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 62 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | _ => false

abbrev sig : RefSig :=
  (ofTc nBuf bufTy 1 62 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_12 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_4 : BitVec 32 := 1#32
  let v9 : BitVec 32 := Scalar.addi v2 c1_i32_4
  let c16_i32_5 : BitVec 32 := 16#32
  let c0_i32 : BitVec 32 := 0#32
  let v10 : BitVec 1 := Scalar.cmpi .eq c16_i32_5 c0_i32
  let c1_i32_6 : BitVec 32 := 1#32
  let v11 : BitVec 32 := Scalar.select v10 c1_i32_6 c16_i32_5
  let v12 : BitVec 32 := Scalar.remsi v9 v11
  let c0_i32_8 : BitVec 32 := 0#32
  let v14 : BitVec 1 := Scalar.cmpi .slt v12 c0_i32_8
  let c0_i32_9 : BitVec 32 := 0#32
  let v15 : BitVec 1 := Scalar.cmpi .slt v11 c0_i32_9
  let v16 : BitVec 1 := Scalar.xori v14 v15
  let c0_i32_7 : BitVec 32 := 0#32
  let v13 : BitVec 1 := Scalar.cmpi .ne v12 c0_i32_7
  let v17 : BitVec 1 := Scalar.andi v16 v13
  let v18 : BitVec 32 := Scalar.addi v12 v11
  let v19 : BitVec 32 := Scalar.select v17 v18 v12
  let c1_i32_11 : BitVec 32 := 1#32
  let v20 : BitVec 32 := Scalar.muli v19 c1_i32_11
  let v21 : BitVec 32 := Scalar.addi c0_i32_12 v20
  v21.toNat
def k0_dev2 (d0 : Dev nD) : Nat :=
  let c0_i32_21 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v22 : BitVec 32 := Scalar.addi v2 c2_i32
  let c16_i32_13 : BitVec 32 := 16#32
  let c0_i32_14 : BitVec 32 := 0#32
  let v23 : BitVec 1 := Scalar.cmpi .eq c16_i32_13 c0_i32_14
  let c1_i32_15 : BitVec 32 := 1#32
  let v24 : BitVec 32 := Scalar.select v23 c1_i32_15 c16_i32_13
  let v25 : BitVec 32 := Scalar.remsi v22 v24
  let c0_i32_17 : BitVec 32 := 0#32
  let v27 : BitVec 1 := Scalar.cmpi .slt v25 c0_i32_17
  let c0_i32_18 : BitVec 32 := 0#32
  let v28 : BitVec 1 := Scalar.cmpi .slt v24 c0_i32_18
  let v29 : BitVec 1 := Scalar.xori v27 v28
  let c0_i32_16 : BitVec 32 := 0#32
  let v26 : BitVec 1 := Scalar.cmpi .ne v25 c0_i32_16
  let v30 : BitVec 1 := Scalar.andi v29 v26
  let v31 : BitVec 32 := Scalar.addi v25 v24
  let v32 : BitVec 32 := Scalar.select v30 v31 v25
  let c1_i32_20 : BitVec 32 := 1#32
  let v33 : BitVec 32 := Scalar.muli v32 c1_i32_20
  let v34 : BitVec 32 := Scalar.addi c0_i32_21 v33
  v34.toNat
def k0_dev3 (d0 : Dev nD) : Nat :=
  let c0_i32_30 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v35 : BitVec 32 := Scalar.addi v2 c3_i32
  let c16_i32_22 : BitVec 32 := 16#32
  let c0_i32_23 : BitVec 32 := 0#32
  let v36 : BitVec 1 := Scalar.cmpi .eq c16_i32_22 c0_i32_23
  let c1_i32_24 : BitVec 32 := 1#32
  let v37 : BitVec 32 := Scalar.select v36 c1_i32_24 c16_i32_22
  let v38 : BitVec 32 := Scalar.remsi v35 v37
  let c0_i32_26 : BitVec 32 := 0#32
  let v40 : BitVec 1 := Scalar.cmpi .slt v38 c0_i32_26
  let c0_i32_27 : BitVec 32 := 0#32
  let v41 : BitVec 1 := Scalar.cmpi .slt v37 c0_i32_27
  let v42 : BitVec 1 := Scalar.xori v40 v41
  let c0_i32_25 : BitVec 32 := 0#32
  let v39 : BitVec 1 := Scalar.cmpi .ne v38 c0_i32_25
  let v43 : BitVec 1 := Scalar.andi v42 v39
  let v44 : BitVec 32 := Scalar.addi v38 v37
  let v45 : BitVec 32 := Scalar.select v43 v44 v38
  let c1_i32_29 : BitVec 32 := 1#32
  let v46 : BitVec 32 := Scalar.muli v45 c1_i32_29
  let v47 : BitVec 32 := Scalar.addi c0_i32_30 v46
  v47.toNat
def k0_dev4 (d0 : Dev nD) : Nat :=
  let c0_i32_39 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v48 : BitVec 32 := Scalar.addi v2 c4_i32
  let c16_i32_31 : BitVec 32 := 16#32
  let c0_i32_32 : BitVec 32 := 0#32
  let v49 : BitVec 1 := Scalar.cmpi .eq c16_i32_31 c0_i32_32
  let c1_i32_33 : BitVec 32 := 1#32
  let v50 : BitVec 32 := Scalar.select v49 c1_i32_33 c16_i32_31
  let v51 : BitVec 32 := Scalar.remsi v48 v50
  let c0_i32_35 : BitVec 32 := 0#32
  let v53 : BitVec 1 := Scalar.cmpi .slt v51 c0_i32_35
  let c0_i32_36 : BitVec 32 := 0#32
  let v54 : BitVec 1 := Scalar.cmpi .slt v50 c0_i32_36
  let v55 : BitVec 1 := Scalar.xori v53 v54
  let c0_i32_34 : BitVec 32 := 0#32
  let v52 : BitVec 1 := Scalar.cmpi .ne v51 c0_i32_34
  let v56 : BitVec 1 := Scalar.andi v55 v52
  let v57 : BitVec 32 := Scalar.addi v51 v50
  let v58 : BitVec 32 := Scalar.select v56 v57 v51
  let c1_i32_38 : BitVec 32 := 1#32
  let v59 : BitVec 32 := Scalar.muli v58 c1_i32_38
  let v60 : BitVec 32 := Scalar.addi c0_i32_39 v59
  v60.toNat
def k0_dev5 (d0 : Dev nD) : Nat :=
  let c0_i32_48 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v61 : BitVec 32 := Scalar.addi v2 c5_i32
  let c16_i32_40 : BitVec 32 := 16#32
  let c0_i32_41 : BitVec 32 := 0#32
  let v62 : BitVec 1 := Scalar.cmpi .eq c16_i32_40 c0_i32_41
  let c1_i32_42 : BitVec 32 := 1#32
  let v63 : BitVec 32 := Scalar.select v62 c1_i32_42 c16_i32_40
  let v64 : BitVec 32 := Scalar.remsi v61 v63
  let c0_i32_44 : BitVec 32 := 0#32
  let v66 : BitVec 1 := Scalar.cmpi .slt v64 c0_i32_44
  let c0_i32_45 : BitVec 32 := 0#32
  let v67 : BitVec 1 := Scalar.cmpi .slt v63 c0_i32_45
  let v68 : BitVec 1 := Scalar.xori v66 v67
  let c0_i32_43 : BitVec 32 := 0#32
  let v65 : BitVec 1 := Scalar.cmpi .ne v64 c0_i32_43
  let v69 : BitVec 1 := Scalar.andi v68 v65
  let v70 : BitVec 32 := Scalar.addi v64 v63
  let v71 : BitVec 32 := Scalar.select v69 v70 v64
  let c1_i32_47 : BitVec 32 := 1#32
  let v72 : BitVec 32 := Scalar.muli v71 c1_i32_47
  let v73 : BitVec 32 := Scalar.addi c0_i32_48 v72
  v73.toNat
def k0_dev6 (d0 : Dev nD) : Nat :=
  let c0_i32_57 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v74 : BitVec 32 := Scalar.addi v2 c6_i32
  let c16_i32_49 : BitVec 32 := 16#32
  let c0_i32_50 : BitVec 32 := 0#32
  let v75 : BitVec 1 := Scalar.cmpi .eq c16_i32_49 c0_i32_50
  let c1_i32_51 : BitVec 32 := 1#32
  let v76 : BitVec 32 := Scalar.select v75 c1_i32_51 c16_i32_49
  let v77 : BitVec 32 := Scalar.remsi v74 v76
  let c0_i32_53 : BitVec 32 := 0#32
  let v79 : BitVec 1 := Scalar.cmpi .slt v77 c0_i32_53
  let c0_i32_54 : BitVec 32 := 0#32
  let v80 : BitVec 1 := Scalar.cmpi .slt v76 c0_i32_54
  let v81 : BitVec 1 := Scalar.xori v79 v80
  let c0_i32_52 : BitVec 32 := 0#32
  let v78 : BitVec 1 := Scalar.cmpi .ne v77 c0_i32_52
  let v82 : BitVec 1 := Scalar.andi v81 v78
  let v83 : BitVec 32 := Scalar.addi v77 v76
  let v84 : BitVec 32 := Scalar.select v82 v83 v77
  let c1_i32_56 : BitVec 32 := 1#32
  let v85 : BitVec 32 := Scalar.muli v84 c1_i32_56
  let v86 : BitVec 32 := Scalar.addi c0_i32_57 v85
  v86.toNat
def k0_dev7 (d0 : Dev nD) : Nat :=
  let c0_i32_66 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v87 : BitVec 32 := Scalar.addi v2 c7_i32
  let c16_i32_58 : BitVec 32 := 16#32
  let c0_i32_59 : BitVec 32 := 0#32
  let v88 : BitVec 1 := Scalar.cmpi .eq c16_i32_58 c0_i32_59
  let c1_i32_60 : BitVec 32 := 1#32
  let v89 : BitVec 32 := Scalar.select v88 c1_i32_60 c16_i32_58
  let v90 : BitVec 32 := Scalar.remsi v87 v89
  let c0_i32_62 : BitVec 32 := 0#32
  let v92 : BitVec 1 := Scalar.cmpi .slt v90 c0_i32_62
  let c0_i32_63 : BitVec 32 := 0#32
  let v93 : BitVec 1 := Scalar.cmpi .slt v89 c0_i32_63
  let v94 : BitVec 1 := Scalar.xori v92 v93
  let c0_i32_61 : BitVec 32 := 0#32
  let v91 : BitVec 1 := Scalar.cmpi .ne v90 c0_i32_61
  let v95 : BitVec 1 := Scalar.andi v94 v91
  let v96 : BitVec 32 := Scalar.addi v90 v89
  let v97 : BitVec 32 := Scalar.select v95 v96 v90
  let c1_i32_65 : BitVec 32 := 1#32
  let v98 : BitVec 32 := Scalar.muli v97 c1_i32_65
  let v99 : BitVec 32 := Scalar.addi c0_i32_66 v98
  v99.toNat
def k0_dev8 (d0 : Dev nD) : Nat :=
  let c0_i32_75 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v100 : BitVec 32 := Scalar.addi v2 c8_i32
  let c16_i32_67 : BitVec 32 := 16#32
  let c0_i32_68 : BitVec 32 := 0#32
  let v101 : BitVec 1 := Scalar.cmpi .eq c16_i32_67 c0_i32_68
  let c1_i32_69 : BitVec 32 := 1#32
  let v102 : BitVec 32 := Scalar.select v101 c1_i32_69 c16_i32_67
  let v103 : BitVec 32 := Scalar.remsi v100 v102
  let c0_i32_71 : BitVec 32 := 0#32
  let v105 : BitVec 1 := Scalar.cmpi .slt v103 c0_i32_71
  let c0_i32_72 : BitVec 32 := 0#32
  let v106 : BitVec 1 := Scalar.cmpi .slt v102 c0_i32_72
  let v107 : BitVec 1 := Scalar.xori v105 v106
  let c0_i32_70 : BitVec 32 := 0#32
  let v104 : BitVec 1 := Scalar.cmpi .ne v103 c0_i32_70
  let v108 : BitVec 1 := Scalar.andi v107 v104
  let v109 : BitVec 32 := Scalar.addi v103 v102
  let v110 : BitVec 32 := Scalar.select v108 v109 v103
  let c1_i32_74 : BitVec 32 := 1#32
  let v111 : BitVec 32 := Scalar.muli v110 c1_i32_74
  let v112 : BitVec 32 := Scalar.addi c0_i32_75 v111
  v112.toNat
def k0_dev9 (d0 : Dev nD) : Nat :=
  let c0_i32_84 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v113 : BitVec 32 := Scalar.addi v2 c9_i32
  let c16_i32_76 : BitVec 32 := 16#32
  let c0_i32_77 : BitVec 32 := 0#32
  let v114 : BitVec 1 := Scalar.cmpi .eq c16_i32_76 c0_i32_77
  let c1_i32_78 : BitVec 32 := 1#32
  let v115 : BitVec 32 := Scalar.select v114 c1_i32_78 c16_i32_76
  let v116 : BitVec 32 := Scalar.remsi v113 v115
  let c0_i32_80 : BitVec 32 := 0#32
  let v118 : BitVec 1 := Scalar.cmpi .slt v116 c0_i32_80
  let c0_i32_81 : BitVec 32 := 0#32
  let v119 : BitVec 1 := Scalar.cmpi .slt v115 c0_i32_81
  let v120 : BitVec 1 := Scalar.xori v118 v119
  let c0_i32_79 : BitVec 32 := 0#32
  let v117 : BitVec 1 := Scalar.cmpi .ne v116 c0_i32_79
  let v121 : BitVec 1 := Scalar.andi v120 v117
  let v122 : BitVec 32 := Scalar.addi v116 v115
  let v123 : BitVec 32 := Scalar.select v121 v122 v116
  let c1_i32_83 : BitVec 32 := 1#32
  let v124 : BitVec 32 := Scalar.muli v123 c1_i32_83
  let v125 : BitVec 32 := Scalar.addi c0_i32_84 v124
  v125.toNat
def k0_dev10 (d0 : Dev nD) : Nat :=
  let c0_i32_93 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v126 : BitVec 32 := Scalar.addi v2 c10_i32
  let c16_i32_85 : BitVec 32 := 16#32
  let c0_i32_86 : BitVec 32 := 0#32
  let v127 : BitVec 1 := Scalar.cmpi .eq c16_i32_85 c0_i32_86
  let c1_i32_87 : BitVec 32 := 1#32
  let v128 : BitVec 32 := Scalar.select v127 c1_i32_87 c16_i32_85
  let v129 : BitVec 32 := Scalar.remsi v126 v128
  let c0_i32_89 : BitVec 32 := 0#32
  let v131 : BitVec 1 := Scalar.cmpi .slt v129 c0_i32_89
  let c0_i32_90 : BitVec 32 := 0#32
  let v132 : BitVec 1 := Scalar.cmpi .slt v128 c0_i32_90
  let v133 : BitVec 1 := Scalar.xori v131 v132
  let c0_i32_88 : BitVec 32 := 0#32
  let v130 : BitVec 1 := Scalar.cmpi .ne v129 c0_i32_88
  let v134 : BitVec 1 := Scalar.andi v133 v130
  let v135 : BitVec 32 := Scalar.addi v129 v128
  let v136 : BitVec 32 := Scalar.select v134 v135 v129
  let c1_i32_92 : BitVec 32 := 1#32
  let v137 : BitVec 32 := Scalar.muli v136 c1_i32_92
  let v138 : BitVec 32 := Scalar.addi c0_i32_93 v137
  v138.toNat
def k0_dev11 (d0 : Dev nD) : Nat :=
  let c0_i32_102 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v139 : BitVec 32 := Scalar.addi v2 c11_i32
  let c16_i32_94 : BitVec 32 := 16#32
  let c0_i32_95 : BitVec 32 := 0#32
  let v140 : BitVec 1 := Scalar.cmpi .eq c16_i32_94 c0_i32_95
  let c1_i32_96 : BitVec 32 := 1#32
  let v141 : BitVec 32 := Scalar.select v140 c1_i32_96 c16_i32_94
  let v142 : BitVec 32 := Scalar.remsi v139 v141
  let c0_i32_98 : BitVec 32 := 0#32
  let v144 : BitVec 1 := Scalar.cmpi .slt v142 c0_i32_98
  let c0_i32_99 : BitVec 32 := 0#32
  let v145 : BitVec 1 := Scalar.cmpi .slt v141 c0_i32_99
  let v146 : BitVec 1 := Scalar.xori v144 v145
  let c0_i32_97 : BitVec 32 := 0#32
  let v143 : BitVec 1 := Scalar.cmpi .ne v142 c0_i32_97
  let v147 : BitVec 1 := Scalar.andi v146 v143
  let v148 : BitVec 32 := Scalar.addi v142 v141
  let v149 : BitVec 32 := Scalar.select v147 v148 v142
  let c1_i32_101 : BitVec 32 := 1#32
  let v150 : BitVec 32 := Scalar.muli v149 c1_i32_101
  let v151 : BitVec 32 := Scalar.addi c0_i32_102 v150
  v151.toNat
def k0_dev12 (d0 : Dev nD) : Nat :=
  let c0_i32_111 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v152 : BitVec 32 := Scalar.addi v2 c12_i32
  let c16_i32_103 : BitVec 32 := 16#32
  let c0_i32_104 : BitVec 32 := 0#32
  let v153 : BitVec 1 := Scalar.cmpi .eq c16_i32_103 c0_i32_104
  let c1_i32_105 : BitVec 32 := 1#32
  let v154 : BitVec 32 := Scalar.select v153 c1_i32_105 c16_i32_103
  let v155 : BitVec 32 := Scalar.remsi v152 v154
  let c0_i32_107 : BitVec 32 := 0#32
  let v157 : BitVec 1 := Scalar.cmpi .slt v155 c0_i32_107
  let c0_i32_108 : BitVec 32 := 0#32
  let v158 : BitVec 1 := Scalar.cmpi .slt v154 c0_i32_108
  let v159 : BitVec 1 := Scalar.xori v157 v158
  let c0_i32_106 : BitVec 32 := 0#32
  let v156 : BitVec 1 := Scalar.cmpi .ne v155 c0_i32_106
  let v160 : BitVec 1 := Scalar.andi v159 v156
  let v161 : BitVec 32 := Scalar.addi v155 v154
  let v162 : BitVec 32 := Scalar.select v160 v161 v155
  let c1_i32_110 : BitVec 32 := 1#32
  let v163 : BitVec 32 := Scalar.muli v162 c1_i32_110
  let v164 : BitVec 32 := Scalar.addi c0_i32_111 v163
  v164.toNat
def k0_dev13 (d0 : Dev nD) : Nat :=
  let c0_i32_120 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v165 : BitVec 32 := Scalar.addi v2 c13_i32
  let c16_i32_112 : BitVec 32 := 16#32
  let c0_i32_113 : BitVec 32 := 0#32
  let v166 : BitVec 1 := Scalar.cmpi .eq c16_i32_112 c0_i32_113
  let c1_i32_114 : BitVec 32 := 1#32
  let v167 : BitVec 32 := Scalar.select v166 c1_i32_114 c16_i32_112
  let v168 : BitVec 32 := Scalar.remsi v165 v167
  let c0_i32_116 : BitVec 32 := 0#32
  let v170 : BitVec 1 := Scalar.cmpi .slt v168 c0_i32_116
  let c0_i32_117 : BitVec 32 := 0#32
  let v171 : BitVec 1 := Scalar.cmpi .slt v167 c0_i32_117
  let v172 : BitVec 1 := Scalar.xori v170 v171
  let c0_i32_115 : BitVec 32 := 0#32
  let v169 : BitVec 1 := Scalar.cmpi .ne v168 c0_i32_115
  let v173 : BitVec 1 := Scalar.andi v172 v169
  let v174 : BitVec 32 := Scalar.addi v168 v167
  let v175 : BitVec 32 := Scalar.select v173 v174 v168
  let c1_i32_119 : BitVec 32 := 1#32
  let v176 : BitVec 32 := Scalar.muli v175 c1_i32_119
  let v177 : BitVec 32 := Scalar.addi c0_i32_120 v176
  v177.toNat
def k0_dev14 (d0 : Dev nD) : Nat :=
  let c0_i32_129 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v178 : BitVec 32 := Scalar.addi v2 c14_i32
  let c16_i32_121 : BitVec 32 := 16#32
  let c0_i32_122 : BitVec 32 := 0#32
  let v179 : BitVec 1 := Scalar.cmpi .eq c16_i32_121 c0_i32_122
  let c1_i32_123 : BitVec 32 := 1#32
  let v180 : BitVec 32 := Scalar.select v179 c1_i32_123 c16_i32_121
  let v181 : BitVec 32 := Scalar.remsi v178 v180
  let c0_i32_125 : BitVec 32 := 0#32
  let v183 : BitVec 1 := Scalar.cmpi .slt v181 c0_i32_125
  let c0_i32_126 : BitVec 32 := 0#32
  let v184 : BitVec 1 := Scalar.cmpi .slt v180 c0_i32_126
  let v185 : BitVec 1 := Scalar.xori v183 v184
  let c0_i32_124 : BitVec 32 := 0#32
  let v182 : BitVec 1 := Scalar.cmpi .ne v181 c0_i32_124
  let v186 : BitVec 1 := Scalar.andi v185 v182
  let v187 : BitVec 32 := Scalar.addi v181 v180
  let v188 : BitVec 32 := Scalar.select v186 v187 v181
  let c1_i32_128 : BitVec 32 := 1#32
  let v189 : BitVec 32 := Scalar.muli v188 c1_i32_128
  let v190 : BitVec 32 := Scalar.addi c0_i32_129 v189
  v190.toNat
def k0_dev15 (d0 : Dev nD) : Nat :=
  let c0_i32_138 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v191 : BitVec 32 := Scalar.addi v2 c15_i32
  let c16_i32_130 : BitVec 32 := 16#32
  let c0_i32_131 : BitVec 32 := 0#32
  let v192 : BitVec 1 := Scalar.cmpi .eq c16_i32_130 c0_i32_131
  let c1_i32_132 : BitVec 32 := 1#32
  let v193 : BitVec 32 := Scalar.select v192 c1_i32_132 c16_i32_130
  let v194 : BitVec 32 := Scalar.remsi v191 v193
  let c0_i32_134 : BitVec 32 := 0#32
  let v196 : BitVec 1 := Scalar.cmpi .slt v194 c0_i32_134
  let c0_i32_135 : BitVec 32 := 0#32
  let v197 : BitVec 1 := Scalar.cmpi .slt v193 c0_i32_135
  let v198 : BitVec 1 := Scalar.xori v196 v197
  let c0_i32_133 : BitVec 32 := 0#32
  let v195 : BitVec 1 := Scalar.cmpi .ne v194 c0_i32_133
  let v199 : BitVec 1 := Scalar.andi v198 v195
  let v200 : BitVec 32 := Scalar.addi v194 v193
  let v201 : BitVec 32 := Scalar.select v199 v200 v194
  let c1_i32_137 : BitVec 32 := 1#32
  let v202 : BitVec 32 := Scalar.muli v201 c1_i32_137
  let v203 : BitVec 32 := Scalar.addi c0_i32_138 v202
  v203.toNat
def k0_off1 (d0 : Dev nD) (c1_i32_140 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v204 : BitVec 32 := Scalar.addi v2 c1_i32_140
  let c16_i32_141 : BitVec 32 := 16#32
  let c0_i32_142 : BitVec 32 := 0#32
  let v205 : BitVec 1 := Scalar.cmpi .eq c16_i32_141 c0_i32_142
  let c1_i32_143 : BitVec 32 := 1#32
  let v206 : BitVec 32 := Scalar.select v205 c1_i32_143 c16_i32_141
  let v207 : BitVec 32 := Scalar.remsi v204 v206
  let c0_i32_145 : BitVec 32 := 0#32
  let v209 : BitVec 1 := Scalar.cmpi .slt v207 c0_i32_145
  let c0_i32_146 : BitVec 32 := 0#32
  let v210 : BitVec 1 := Scalar.cmpi .slt v206 c0_i32_146
  let v211 : BitVec 1 := Scalar.xori v209 v210
  let c0_i32_144 : BitVec 32 := 0#32
  let v208 : BitVec 1 := Scalar.cmpi .ne v207 c0_i32_144
  let v212 : BitVec 1 := Scalar.andi v211 v208
  let v213 : BitVec 32 := Scalar.addi v207 v206
  let v214 : BitVec 32 := Scalar.select v212 v213 v207
  let c32_i32 : BitVec 32 := 32#32
  let v215 : BitVec 32 := Scalar.muli v214 c32_i32
  let c0_i32_154 : BitVec 32 := 0#32
  ![v215.toNat, 0]
def k0_dev16 (d0 : Dev nD) : Nat :=
  let c0_i32_151 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_140 : BitVec 32 := 1#32
  let v204 : BitVec 32 := Scalar.addi v2 c1_i32_140
  let c16_i32_141 : BitVec 32 := 16#32
  let c0_i32_142 : BitVec 32 := 0#32
  let v205 : BitVec 1 := Scalar.cmpi .eq c16_i32_141 c0_i32_142
  let c1_i32_143 : BitVec 32 := 1#32
  let v206 : BitVec 32 := Scalar.select v205 c1_i32_143 c16_i32_141
  let v207 : BitVec 32 := Scalar.remsi v204 v206
  let c0_i32_145 : BitVec 32 := 0#32
  let v209 : BitVec 1 := Scalar.cmpi .slt v207 c0_i32_145
  let c0_i32_146 : BitVec 32 := 0#32
  let v210 : BitVec 1 := Scalar.cmpi .slt v206 c0_i32_146
  let v211 : BitVec 1 := Scalar.xori v209 v210
  let c0_i32_144 : BitVec 32 := 0#32
  let v208 : BitVec 1 := Scalar.cmpi .ne v207 c0_i32_144
  let v212 : BitVec 1 := Scalar.andi v211 v208
  let v213 : BitVec 32 := Scalar.addi v207 v206
  let v214 : BitVec 32 := Scalar.select v212 v213 v207
  let c1_i32_150 : BitVec 32 := 1#32
  let v216 : BitVec 32 := Scalar.muli v214 c1_i32_150
  let v217 : BitVec 32 := Scalar.addi c0_i32_151 v216
  v217.toNat
def k0_dev17 (d0 : Dev nD) : Nat :=
  let c0_i32_167 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_155 : BitVec 32 := 2#32
  let v225 : BitVec 32 := Scalar.addi v2 c2_i32_155
  let c16_i32_156 : BitVec 32 := 16#32
  let c0_i32_157 : BitVec 32 := 0#32
  let v226 : BitVec 1 := Scalar.cmpi .eq c16_i32_156 c0_i32_157
  let c1_i32_158 : BitVec 32 := 1#32
  let v227 : BitVec 32 := Scalar.select v226 c1_i32_158 c16_i32_156
  let v228 : BitVec 32 := Scalar.remsi v225 v227
  let c0_i32_160 : BitVec 32 := 0#32
  let v230 : BitVec 1 := Scalar.cmpi .slt v228 c0_i32_160
  let c0_i32_161 : BitVec 32 := 0#32
  let v231 : BitVec 1 := Scalar.cmpi .slt v227 c0_i32_161
  let v232 : BitVec 1 := Scalar.xori v230 v231
  let c0_i32_159 : BitVec 32 := 0#32
  let v229 : BitVec 1 := Scalar.cmpi .ne v228 c0_i32_159
  let v233 : BitVec 1 := Scalar.andi v232 v229
  let v234 : BitVec 32 := Scalar.addi v228 v227
  let v235 : BitVec 32 := Scalar.select v233 v234 v228
  let c1_i32_166 : BitVec 32 := 1#32
  let v237 : BitVec 32 := Scalar.muli v235 c1_i32_166
  let v238 : BitVec 32 := Scalar.addi c0_i32_167 v237
  v238.toNat
def k0_dev18 (d0 : Dev nD) : Nat :=
  let c0_i32_183 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_171 : BitVec 32 := 3#32
  let v246 : BitVec 32 := Scalar.addi v2 c3_i32_171
  let c16_i32_172 : BitVec 32 := 16#32
  let c0_i32_173 : BitVec 32 := 0#32
  let v247 : BitVec 1 := Scalar.cmpi .eq c16_i32_172 c0_i32_173
  let c1_i32_174 : BitVec 32 := 1#32
  let v248 : BitVec 32 := Scalar.select v247 c1_i32_174 c16_i32_172
  let v249 : BitVec 32 := Scalar.remsi v246 v248
  let c0_i32_176 : BitVec 32 := 0#32
  let v251 : BitVec 1 := Scalar.cmpi .slt v249 c0_i32_176
  let c0_i32_177 : BitVec 32 := 0#32
  let v252 : BitVec 1 := Scalar.cmpi .slt v248 c0_i32_177
  let v253 : BitVec 1 := Scalar.xori v251 v252
  let c0_i32_175 : BitVec 32 := 0#32
  let v250 : BitVec 1 := Scalar.cmpi .ne v249 c0_i32_175
  let v254 : BitVec 1 := Scalar.andi v253 v250
  let v255 : BitVec 32 := Scalar.addi v249 v248
  let v256 : BitVec 32 := Scalar.select v254 v255 v249
  let c1_i32_182 : BitVec 32 := 1#32
  let v258 : BitVec 32 := Scalar.muli v256 c1_i32_182
  let v259 : BitVec 32 := Scalar.addi c0_i32_183 v258
  v259.toNat
def k0_dev19 (d0 : Dev nD) : Nat :=
  let c0_i32_199 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_187 : BitVec 32 := 4#32
  let v267 : BitVec 32 := Scalar.addi v2 c4_i32_187
  let c16_i32_188 : BitVec 32 := 16#32
  let c0_i32_189 : BitVec 32 := 0#32
  let v268 : BitVec 1 := Scalar.cmpi .eq c16_i32_188 c0_i32_189
  let c1_i32_190 : BitVec 32 := 1#32
  let v269 : BitVec 32 := Scalar.select v268 c1_i32_190 c16_i32_188
  let v270 : BitVec 32 := Scalar.remsi v267 v269
  let c0_i32_192 : BitVec 32 := 0#32
  let v272 : BitVec 1 := Scalar.cmpi .slt v270 c0_i32_192
  let c0_i32_193 : BitVec 32 := 0#32
  let v273 : BitVec 1 := Scalar.cmpi .slt v269 c0_i32_193
  let v274 : BitVec 1 := Scalar.xori v272 v273
  let c0_i32_191 : BitVec 32 := 0#32
  let v271 : BitVec 1 := Scalar.cmpi .ne v270 c0_i32_191
  let v275 : BitVec 1 := Scalar.andi v274 v271
  let v276 : BitVec 32 := Scalar.addi v270 v269
  let v277 : BitVec 32 := Scalar.select v275 v276 v270
  let c1_i32_198 : BitVec 32 := 1#32
  let v279 : BitVec 32 := Scalar.muli v277 c1_i32_198
  let v280 : BitVec 32 := Scalar.addi c0_i32_199 v279
  v280.toNat
def k0_dev20 (d0 : Dev nD) : Nat :=
  let c0_i32_215 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_203 : BitVec 32 := 5#32
  let v288 : BitVec 32 := Scalar.addi v2 c5_i32_203
  let c16_i32_204 : BitVec 32 := 16#32
  let c0_i32_205 : BitVec 32 := 0#32
  let v289 : BitVec 1 := Scalar.cmpi .eq c16_i32_204 c0_i32_205
  let c1_i32_206 : BitVec 32 := 1#32
  let v290 : BitVec 32 := Scalar.select v289 c1_i32_206 c16_i32_204
  let v291 : BitVec 32 := Scalar.remsi v288 v290
  let c0_i32_208 : BitVec 32 := 0#32
  let v293 : BitVec 1 := Scalar.cmpi .slt v291 c0_i32_208
  let c0_i32_209 : BitVec 32 := 0#32
  let v294 : BitVec 1 := Scalar.cmpi .slt v290 c0_i32_209
  let v295 : BitVec 1 := Scalar.xori v293 v294
  let c0_i32_207 : BitVec 32 := 0#32
  let v292 : BitVec 1 := Scalar.cmpi .ne v291 c0_i32_207
  let v296 : BitVec 1 := Scalar.andi v295 v292
  let v297 : BitVec 32 := Scalar.addi v291 v290
  let v298 : BitVec 32 := Scalar.select v296 v297 v291
  let c1_i32_214 : BitVec 32 := 1#32
  let v300 : BitVec 32 := Scalar.muli v298 c1_i32_214
  let v301 : BitVec 32 := Scalar.addi c0_i32_215 v300
  v301.toNat
def k0_dev21 (d0 : Dev nD) : Nat :=
  let c0_i32_231 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_219 : BitVec 32 := 6#32
  let v309 : BitVec 32 := Scalar.addi v2 c6_i32_219
  let c16_i32_220 : BitVec 32 := 16#32
  let c0_i32_221 : BitVec 32 := 0#32
  let v310 : BitVec 1 := Scalar.cmpi .eq c16_i32_220 c0_i32_221
  let c1_i32_222 : BitVec 32 := 1#32
  let v311 : BitVec 32 := Scalar.select v310 c1_i32_222 c16_i32_220
  let v312 : BitVec 32 := Scalar.remsi v309 v311
  let c0_i32_224 : BitVec 32 := 0#32
  let v314 : BitVec 1 := Scalar.cmpi .slt v312 c0_i32_224
  let c0_i32_225 : BitVec 32 := 0#32
  let v315 : BitVec 1 := Scalar.cmpi .slt v311 c0_i32_225
  let v316 : BitVec 1 := Scalar.xori v314 v315
  let c0_i32_223 : BitVec 32 := 0#32
  let v313 : BitVec 1 := Scalar.cmpi .ne v312 c0_i32_223
  let v317 : BitVec 1 := Scalar.andi v316 v313
  let v318 : BitVec 32 := Scalar.addi v312 v311
  let v319 : BitVec 32 := Scalar.select v317 v318 v312
  let c1_i32_230 : BitVec 32 := 1#32
  let v321 : BitVec 32 := Scalar.muli v319 c1_i32_230
  let v322 : BitVec 32 := Scalar.addi c0_i32_231 v321
  v322.toNat
def k0_dev22 (d0 : Dev nD) : Nat :=
  let c0_i32_247 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_235 : BitVec 32 := 7#32
  let v330 : BitVec 32 := Scalar.addi v2 c7_i32_235
  let c16_i32_236 : BitVec 32 := 16#32
  let c0_i32_237 : BitVec 32 := 0#32
  let v331 : BitVec 1 := Scalar.cmpi .eq c16_i32_236 c0_i32_237
  let c1_i32_238 : BitVec 32 := 1#32
  let v332 : BitVec 32 := Scalar.select v331 c1_i32_238 c16_i32_236
  let v333 : BitVec 32 := Scalar.remsi v330 v332
  let c0_i32_240 : BitVec 32 := 0#32
  let v335 : BitVec 1 := Scalar.cmpi .slt v333 c0_i32_240
  let c0_i32_241 : BitVec 32 := 0#32
  let v336 : BitVec 1 := Scalar.cmpi .slt v332 c0_i32_241
  let v337 : BitVec 1 := Scalar.xori v335 v336
  let c0_i32_239 : BitVec 32 := 0#32
  let v334 : BitVec 1 := Scalar.cmpi .ne v333 c0_i32_239
  let v338 : BitVec 1 := Scalar.andi v337 v334
  let v339 : BitVec 32 := Scalar.addi v333 v332
  let v340 : BitVec 32 := Scalar.select v338 v339 v333
  let c1_i32_246 : BitVec 32 := 1#32
  let v342 : BitVec 32 := Scalar.muli v340 c1_i32_246
  let v343 : BitVec 32 := Scalar.addi c0_i32_247 v342
  v343.toNat
def k0_dev23 (d0 : Dev nD) : Nat :=
  let c0_i32_263 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_251 : BitVec 32 := 8#32
  let v351 : BitVec 32 := Scalar.addi v2 c8_i32_251
  let c16_i32_252 : BitVec 32 := 16#32
  let c0_i32_253 : BitVec 32 := 0#32
  let v352 : BitVec 1 := Scalar.cmpi .eq c16_i32_252 c0_i32_253
  let c1_i32_254 : BitVec 32 := 1#32
  let v353 : BitVec 32 := Scalar.select v352 c1_i32_254 c16_i32_252
  let v354 : BitVec 32 := Scalar.remsi v351 v353
  let c0_i32_256 : BitVec 32 := 0#32
  let v356 : BitVec 1 := Scalar.cmpi .slt v354 c0_i32_256
  let c0_i32_257 : BitVec 32 := 0#32
  let v357 : BitVec 1 := Scalar.cmpi .slt v353 c0_i32_257
  let v358 : BitVec 1 := Scalar.xori v356 v357
  let c0_i32_255 : BitVec 32 := 0#32
  let v355 : BitVec 1 := Scalar.cmpi .ne v354 c0_i32_255
  let v359 : BitVec 1 := Scalar.andi v358 v355
  let v360 : BitVec 32 := Scalar.addi v354 v353
  let v361 : BitVec 32 := Scalar.select v359 v360 v354
  let c1_i32_262 : BitVec 32 := 1#32
  let v363 : BitVec 32 := Scalar.muli v361 c1_i32_262
  let v364 : BitVec 32 := Scalar.addi c0_i32_263 v363
  v364.toNat
def k0_dev24 (d0 : Dev nD) : Nat :=
  let c0_i32_279 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_267 : BitVec 32 := 9#32
  let v372 : BitVec 32 := Scalar.addi v2 c9_i32_267
  let c16_i32_268 : BitVec 32 := 16#32
  let c0_i32_269 : BitVec 32 := 0#32
  let v373 : BitVec 1 := Scalar.cmpi .eq c16_i32_268 c0_i32_269
  let c1_i32_270 : BitVec 32 := 1#32
  let v374 : BitVec 32 := Scalar.select v373 c1_i32_270 c16_i32_268
  let v375 : BitVec 32 := Scalar.remsi v372 v374
  let c0_i32_272 : BitVec 32 := 0#32
  let v377 : BitVec 1 := Scalar.cmpi .slt v375 c0_i32_272
  let c0_i32_273 : BitVec 32 := 0#32
  let v378 : BitVec 1 := Scalar.cmpi .slt v374 c0_i32_273
  let v379 : BitVec 1 := Scalar.xori v377 v378
  let c0_i32_271 : BitVec 32 := 0#32
  let v376 : BitVec 1 := Scalar.cmpi .ne v375 c0_i32_271
  let v380 : BitVec 1 := Scalar.andi v379 v376
  let v381 : BitVec 32 := Scalar.addi v375 v374
  let v382 : BitVec 32 := Scalar.select v380 v381 v375
  let c1_i32_278 : BitVec 32 := 1#32
  let v384 : BitVec 32 := Scalar.muli v382 c1_i32_278
  let v385 : BitVec 32 := Scalar.addi c0_i32_279 v384
  v385.toNat
def k0_dev25 (d0 : Dev nD) : Nat :=
  let c0_i32_295 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_283 : BitVec 32 := 10#32
  let v393 : BitVec 32 := Scalar.addi v2 c10_i32_283
  let c16_i32_284 : BitVec 32 := 16#32
  let c0_i32_285 : BitVec 32 := 0#32
  let v394 : BitVec 1 := Scalar.cmpi .eq c16_i32_284 c0_i32_285
  let c1_i32_286 : BitVec 32 := 1#32
  let v395 : BitVec 32 := Scalar.select v394 c1_i32_286 c16_i32_284
  let v396 : BitVec 32 := Scalar.remsi v393 v395
  let c0_i32_288 : BitVec 32 := 0#32
  let v398 : BitVec 1 := Scalar.cmpi .slt v396 c0_i32_288
  let c0_i32_289 : BitVec 32 := 0#32
  let v399 : BitVec 1 := Scalar.cmpi .slt v395 c0_i32_289
  let v400 : BitVec 1 := Scalar.xori v398 v399
  let c0_i32_287 : BitVec 32 := 0#32
  let v397 : BitVec 1 := Scalar.cmpi .ne v396 c0_i32_287
  let v401 : BitVec 1 := Scalar.andi v400 v397
  let v402 : BitVec 32 := Scalar.addi v396 v395
  let v403 : BitVec 32 := Scalar.select v401 v402 v396
  let c1_i32_294 : BitVec 32 := 1#32
  let v405 : BitVec 32 := Scalar.muli v403 c1_i32_294
  let v406 : BitVec 32 := Scalar.addi c0_i32_295 v405
  v406.toNat
def k0_dev26 (d0 : Dev nD) : Nat :=
  let c0_i32_311 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_299 : BitVec 32 := 11#32
  let v414 : BitVec 32 := Scalar.addi v2 c11_i32_299
  let c16_i32_300 : BitVec 32 := 16#32
  let c0_i32_301 : BitVec 32 := 0#32
  let v415 : BitVec 1 := Scalar.cmpi .eq c16_i32_300 c0_i32_301
  let c1_i32_302 : BitVec 32 := 1#32
  let v416 : BitVec 32 := Scalar.select v415 c1_i32_302 c16_i32_300
  let v417 : BitVec 32 := Scalar.remsi v414 v416
  let c0_i32_304 : BitVec 32 := 0#32
  let v419 : BitVec 1 := Scalar.cmpi .slt v417 c0_i32_304
  let c0_i32_305 : BitVec 32 := 0#32
  let v420 : BitVec 1 := Scalar.cmpi .slt v416 c0_i32_305
  let v421 : BitVec 1 := Scalar.xori v419 v420
  let c0_i32_303 : BitVec 32 := 0#32
  let v418 : BitVec 1 := Scalar.cmpi .ne v417 c0_i32_303
  let v422 : BitVec 1 := Scalar.andi v421 v418
  let v423 : BitVec 32 := Scalar.addi v417 v416
  let v424 : BitVec 32 := Scalar.select v422 v423 v417
  let c1_i32_310 : BitVec 32 := 1#32
  let v426 : BitVec 32 := Scalar.muli v424 c1_i32_310
  let v427 : BitVec 32 := Scalar.addi c0_i32_311 v426
  v427.toNat
def k0_dev27 (d0 : Dev nD) : Nat :=
  let c0_i32_327 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_315 : BitVec 32 := 12#32
  let v435 : BitVec 32 := Scalar.addi v2 c12_i32_315
  let c16_i32_316 : BitVec 32 := 16#32
  let c0_i32_317 : BitVec 32 := 0#32
  let v436 : BitVec 1 := Scalar.cmpi .eq c16_i32_316 c0_i32_317
  let c1_i32_318 : BitVec 32 := 1#32
  let v437 : BitVec 32 := Scalar.select v436 c1_i32_318 c16_i32_316
  let v438 : BitVec 32 := Scalar.remsi v435 v437
  let c0_i32_320 : BitVec 32 := 0#32
  let v440 : BitVec 1 := Scalar.cmpi .slt v438 c0_i32_320
  let c0_i32_321 : BitVec 32 := 0#32
  let v441 : BitVec 1 := Scalar.cmpi .slt v437 c0_i32_321
  let v442 : BitVec 1 := Scalar.xori v440 v441
  let c0_i32_319 : BitVec 32 := 0#32
  let v439 : BitVec 1 := Scalar.cmpi .ne v438 c0_i32_319
  let v443 : BitVec 1 := Scalar.andi v442 v439
  let v444 : BitVec 32 := Scalar.addi v438 v437
  let v445 : BitVec 32 := Scalar.select v443 v444 v438
  let c1_i32_326 : BitVec 32 := 1#32
  let v447 : BitVec 32 := Scalar.muli v445 c1_i32_326
  let v448 : BitVec 32 := Scalar.addi c0_i32_327 v447
  v448.toNat
def k0_dev28 (d0 : Dev nD) : Nat :=
  let c0_i32_343 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_331 : BitVec 32 := 13#32
  let v456 : BitVec 32 := Scalar.addi v2 c13_i32_331
  let c16_i32_332 : BitVec 32 := 16#32
  let c0_i32_333 : BitVec 32 := 0#32
  let v457 : BitVec 1 := Scalar.cmpi .eq c16_i32_332 c0_i32_333
  let c1_i32_334 : BitVec 32 := 1#32
  let v458 : BitVec 32 := Scalar.select v457 c1_i32_334 c16_i32_332
  let v459 : BitVec 32 := Scalar.remsi v456 v458
  let c0_i32_336 : BitVec 32 := 0#32
  let v461 : BitVec 1 := Scalar.cmpi .slt v459 c0_i32_336
  let c0_i32_337 : BitVec 32 := 0#32
  let v462 : BitVec 1 := Scalar.cmpi .slt v458 c0_i32_337
  let v463 : BitVec 1 := Scalar.xori v461 v462
  let c0_i32_335 : BitVec 32 := 0#32
  let v460 : BitVec 1 := Scalar.cmpi .ne v459 c0_i32_335
  let v464 : BitVec 1 := Scalar.andi v463 v460
  let v465 : BitVec 32 := Scalar.addi v459 v458
  let v466 : BitVec 32 := Scalar.select v464 v465 v459
  let c1_i32_342 : BitVec 32 := 1#32
  let v468 : BitVec 32 := Scalar.muli v466 c1_i32_342
  let v469 : BitVec 32 := Scalar.addi c0_i32_343 v468
  v469.toNat
def k0_dev29 (d0 : Dev nD) : Nat :=
  let c0_i32_359 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_347 : BitVec 32 := 14#32
  let v477 : BitVec 32 := Scalar.addi v2 c14_i32_347
  let c16_i32_348 : BitVec 32 := 16#32
  let c0_i32_349 : BitVec 32 := 0#32
  let v478 : BitVec 1 := Scalar.cmpi .eq c16_i32_348 c0_i32_349
  let c1_i32_350 : BitVec 32 := 1#32
  let v479 : BitVec 32 := Scalar.select v478 c1_i32_350 c16_i32_348
  let v480 : BitVec 32 := Scalar.remsi v477 v479
  let c0_i32_352 : BitVec 32 := 0#32
  let v482 : BitVec 1 := Scalar.cmpi .slt v480 c0_i32_352
  let c0_i32_353 : BitVec 32 := 0#32
  let v483 : BitVec 1 := Scalar.cmpi .slt v479 c0_i32_353
  let v484 : BitVec 1 := Scalar.xori v482 v483
  let c0_i32_351 : BitVec 32 := 0#32
  let v481 : BitVec 1 := Scalar.cmpi .ne v480 c0_i32_351
  let v485 : BitVec 1 := Scalar.andi v484 v481
  let v486 : BitVec 32 := Scalar.addi v480 v479
  let v487 : BitVec 32 := Scalar.select v485 v486 v480
  let c1_i32_358 : BitVec 32 := 1#32
  let v489 : BitVec 32 := Scalar.muli v487 c1_i32_358
  let v490 : BitVec 32 := Scalar.addi c0_i32_359 v489
  v490.toNat
def k0_dev30 (d0 : Dev nD) : Nat :=
  let c0_i32_375 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_363 : BitVec 32 := 15#32
  let v498 : BitVec 32 := Scalar.addi v2 c15_i32_363
  let c16_i32_364 : BitVec 32 := 16#32
  let c0_i32_365 : BitVec 32 := 0#32
  let v499 : BitVec 1 := Scalar.cmpi .eq c16_i32_364 c0_i32_365
  let c1_i32_366 : BitVec 32 := 1#32
  let v500 : BitVec 32 := Scalar.select v499 c1_i32_366 c16_i32_364
  let v501 : BitVec 32 := Scalar.remsi v498 v500
  let c0_i32_368 : BitVec 32 := 0#32
  let v503 : BitVec 1 := Scalar.cmpi .slt v501 c0_i32_368
  let c0_i32_369 : BitVec 32 := 0#32
  let v504 : BitVec 1 := Scalar.cmpi .slt v500 c0_i32_369
  let v505 : BitVec 1 := Scalar.xori v503 v504
  let c0_i32_367 : BitVec 32 := 0#32
  let v502 : BitVec 1 := Scalar.cmpi .ne v501 c0_i32_367
  let v506 : BitVec 1 := Scalar.andi v505 v502
  let v507 : BitVec 32 := Scalar.addi v501 v500
  let v508 : BitVec 32 := Scalar.select v506 v507 v501
  let c1_i32_374 : BitVec 32 := 1#32
  let v510 : BitVec 32 := Scalar.muli v508 c1_i32_374
  let v511 : BitVec 32 := Scalar.addi c0_i32_375 v510
  v511.toNat
def k0_off2 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_379 : BitVec 32 := 32#32
  let v519 : BitVec 32 := Scalar.muli v2 c32_i32_379
  let v560 : Index := Scalar.indexCast v519
  let c0_430 : Index := 0#32
  ![v560.toNat, 0]
def k0_off3 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_379 : BitVec 32 := 32#32
  let v519 : BitVec 32 := Scalar.muli v2 c32_i32_379
  let c0_i32_577 : BitVec 32 := 0#32
  ![v519.toNat, 0]
def k0_dev31 (d0 : Dev nD) : Nat :=
  let c0_i32_576 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_567 : BitVec 32 := 1#32
  let v703 : BitVec 32 := Scalar.addi v2 c1_i32_567
  let c16_i32_568 : BitVec 32 := 16#32
  let c0_i32_569 : BitVec 32 := 0#32
  let v704 : BitVec 1 := Scalar.cmpi .eq c16_i32_568 c0_i32_569
  let c1_i32_570 : BitVec 32 := 1#32
  let v705 : BitVec 32 := Scalar.select v704 c1_i32_570 c16_i32_568
  let v706 : BitVec 32 := Scalar.remsi v703 v705
  let c0_i32_572 : BitVec 32 := 0#32
  let v708 : BitVec 1 := Scalar.cmpi .slt v706 c0_i32_572
  let c0_i32_573 : BitVec 32 := 0#32
  let v709 : BitVec 1 := Scalar.cmpi .slt v705 c0_i32_573
  let v710 : BitVec 1 := Scalar.xori v708 v709
  let c0_i32_571 : BitVec 32 := 0#32
  let v707 : BitVec 1 := Scalar.cmpi .ne v706 c0_i32_571
  let v711 : BitVec 1 := Scalar.andi v710 v707
  let v712 : BitVec 32 := Scalar.addi v706 v705
  let v713 : BitVec 32 := Scalar.select v711 v712 v706
  let c1_i32_575 : BitVec 32 := 1#32
  let v714 : BitVec 32 := Scalar.muli v713 c1_i32_575
  let v715 : BitVec 32 := Scalar.addi c0_i32_576 v714
  v715.toNat
def k0_dev32 (d0 : Dev nD) : Nat :=
  let c0_i32_588 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_579 : BitVec 32 := 2#32
  let v722 : BitVec 32 := Scalar.addi v2 c2_i32_579
  let c16_i32_580 : BitVec 32 := 16#32
  let c0_i32_581 : BitVec 32 := 0#32
  let v723 : BitVec 1 := Scalar.cmpi .eq c16_i32_580 c0_i32_581
  let c1_i32_582 : BitVec 32 := 1#32
  let v724 : BitVec 32 := Scalar.select v723 c1_i32_582 c16_i32_580
  let v725 : BitVec 32 := Scalar.remsi v722 v724
  let c0_i32_584 : BitVec 32 := 0#32
  let v727 : BitVec 1 := Scalar.cmpi .slt v725 c0_i32_584
  let c0_i32_585 : BitVec 32 := 0#32
  let v728 : BitVec 1 := Scalar.cmpi .slt v724 c0_i32_585
  let v729 : BitVec 1 := Scalar.xori v727 v728
  let c0_i32_583 : BitVec 32 := 0#32
  let v726 : BitVec 1 := Scalar.cmpi .ne v725 c0_i32_583
  let v730 : BitVec 1 := Scalar.andi v729 v726
  let v731 : BitVec 32 := Scalar.addi v725 v724
  let v732 : BitVec 32 := Scalar.select v730 v731 v725
  let c1_i32_587 : BitVec 32 := 1#32
  let v733 : BitVec 32 := Scalar.muli v732 c1_i32_587
  let v734 : BitVec 32 := Scalar.addi c0_i32_588 v733
  v734.toNat
def k0_dev33 (d0 : Dev nD) : Nat :=
  let c0_i32_599 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_591 : BitVec 32 := 3#32
  let v741 : BitVec 32 := Scalar.addi v2 c3_i32_591
  let c16_i32_592 : BitVec 32 := 16#32
  let c0_i32_593 : BitVec 32 := 0#32
  let v742 : BitVec 1 := Scalar.cmpi .eq c16_i32_592 c0_i32_593
  let c1_i32_594 : BitVec 32 := 1#32
  let v743 : BitVec 32 := Scalar.select v742 c1_i32_594 c16_i32_592
  let v744 : BitVec 32 := Scalar.remsi v741 v743
  let c0_i32_596 : BitVec 32 := 0#32
  let v746 : BitVec 1 := Scalar.cmpi .slt v744 c0_i32_596
  let c0_i32_597 : BitVec 32 := 0#32
  let v747 : BitVec 1 := Scalar.cmpi .slt v743 c0_i32_597
  let v748 : BitVec 1 := Scalar.xori v746 v747
  let c0_i32_595 : BitVec 32 := 0#32
  let v745 : BitVec 1 := Scalar.cmpi .ne v744 c0_i32_595
  let v749 : BitVec 1 := Scalar.andi v748 v745
  let v750 : BitVec 32 := Scalar.addi v744 v743
  let v751 : BitVec 32 := Scalar.select v749 v750 v744
  let c1_i32_598 : BitVec 32 := 1#32
  let v752 : BitVec 32 := Scalar.muli v751 c1_i32_598
  let v753 : BitVec 32 := Scalar.addi c0_i32_599 v752
  v753.toNat
def k0_dev34 (d0 : Dev nD) : Nat :=
  let c0_i32_610 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_602 : BitVec 32 := 4#32
  let v760 : BitVec 32 := Scalar.addi v2 c4_i32_602
  let c16_i32_603 : BitVec 32 := 16#32
  let c0_i32_604 : BitVec 32 := 0#32
  let v761 : BitVec 1 := Scalar.cmpi .eq c16_i32_603 c0_i32_604
  let c1_i32_605 : BitVec 32 := 1#32
  let v762 : BitVec 32 := Scalar.select v761 c1_i32_605 c16_i32_603
  let v763 : BitVec 32 := Scalar.remsi v760 v762
  let c0_i32_607 : BitVec 32 := 0#32
  let v765 : BitVec 1 := Scalar.cmpi .slt v763 c0_i32_607
  let c0_i32_608 : BitVec 32 := 0#32
  let v766 : BitVec 1 := Scalar.cmpi .slt v762 c0_i32_608
  let v767 : BitVec 1 := Scalar.xori v765 v766
  let c0_i32_606 : BitVec 32 := 0#32
  let v764 : BitVec 1 := Scalar.cmpi .ne v763 c0_i32_606
  let v768 : BitVec 1 := Scalar.andi v767 v764
  let v769 : BitVec 32 := Scalar.addi v763 v762
  let v770 : BitVec 32 := Scalar.select v768 v769 v763
  let c1_i32_609 : BitVec 32 := 1#32
  let v771 : BitVec 32 := Scalar.muli v770 c1_i32_609
  let v772 : BitVec 32 := Scalar.addi c0_i32_610 v771
  v772.toNat
def k0_dev35 (d0 : Dev nD) : Nat :=
  let c0_i32_621 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_613 : BitVec 32 := 5#32
  let v779 : BitVec 32 := Scalar.addi v2 c5_i32_613
  let c16_i32_614 : BitVec 32 := 16#32
  let c0_i32_615 : BitVec 32 := 0#32
  let v780 : BitVec 1 := Scalar.cmpi .eq c16_i32_614 c0_i32_615
  let c1_i32_616 : BitVec 32 := 1#32
  let v781 : BitVec 32 := Scalar.select v780 c1_i32_616 c16_i32_614
  let v782 : BitVec 32 := Scalar.remsi v779 v781
  let c0_i32_618 : BitVec 32 := 0#32
  let v784 : BitVec 1 := Scalar.cmpi .slt v782 c0_i32_618
  let c0_i32_619 : BitVec 32 := 0#32
  let v785 : BitVec 1 := Scalar.cmpi .slt v781 c0_i32_619
  let v786 : BitVec 1 := Scalar.xori v784 v785
  let c0_i32_617 : BitVec 32 := 0#32
  let v783 : BitVec 1 := Scalar.cmpi .ne v782 c0_i32_617
  let v787 : BitVec 1 := Scalar.andi v786 v783
  let v788 : BitVec 32 := Scalar.addi v782 v781
  let v789 : BitVec 32 := Scalar.select v787 v788 v782
  let c1_i32_620 : BitVec 32 := 1#32
  let v790 : BitVec 32 := Scalar.muli v789 c1_i32_620
  let v791 : BitVec 32 := Scalar.addi c0_i32_621 v790
  v791.toNat
def k0_dev36 (d0 : Dev nD) : Nat :=
  let c0_i32_632 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_624 : BitVec 32 := 6#32
  let v798 : BitVec 32 := Scalar.addi v2 c6_i32_624
  let c16_i32_625 : BitVec 32 := 16#32
  let c0_i32_626 : BitVec 32 := 0#32
  let v799 : BitVec 1 := Scalar.cmpi .eq c16_i32_625 c0_i32_626
  let c1_i32_627 : BitVec 32 := 1#32
  let v800 : BitVec 32 := Scalar.select v799 c1_i32_627 c16_i32_625
  let v801 : BitVec 32 := Scalar.remsi v798 v800
  let c0_i32_629 : BitVec 32 := 0#32
  let v803 : BitVec 1 := Scalar.cmpi .slt v801 c0_i32_629
  let c0_i32_630 : BitVec 32 := 0#32
  let v804 : BitVec 1 := Scalar.cmpi .slt v800 c0_i32_630
  let v805 : BitVec 1 := Scalar.xori v803 v804
  let c0_i32_628 : BitVec 32 := 0#32
  let v802 : BitVec 1 := Scalar.cmpi .ne v801 c0_i32_628
  let v806 : BitVec 1 := Scalar.andi v805 v802
  let v807 : BitVec 32 := Scalar.addi v801 v800
  let v808 : BitVec 32 := Scalar.select v806 v807 v801
  let c1_i32_631 : BitVec 32 := 1#32
  let v809 : BitVec 32 := Scalar.muli v808 c1_i32_631
  let v810 : BitVec 32 := Scalar.addi c0_i32_632 v809
  v810.toNat
def k0_dev37 (d0 : Dev nD) : Nat :=
  let c0_i32_643 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_635 : BitVec 32 := 7#32
  let v817 : BitVec 32 := Scalar.addi v2 c7_i32_635
  let c16_i32_636 : BitVec 32 := 16#32
  let c0_i32_637 : BitVec 32 := 0#32
  let v818 : BitVec 1 := Scalar.cmpi .eq c16_i32_636 c0_i32_637
  let c1_i32_638 : BitVec 32 := 1#32
  let v819 : BitVec 32 := Scalar.select v818 c1_i32_638 c16_i32_636
  let v820 : BitVec 32 := Scalar.remsi v817 v819
  let c0_i32_640 : BitVec 32 := 0#32
  let v822 : BitVec 1 := Scalar.cmpi .slt v820 c0_i32_640
  let c0_i32_641 : BitVec 32 := 0#32
  let v823 : BitVec 1 := Scalar.cmpi .slt v819 c0_i32_641
  let v824 : BitVec 1 := Scalar.xori v822 v823
  let c0_i32_639 : BitVec 32 := 0#32
  let v821 : BitVec 1 := Scalar.cmpi .ne v820 c0_i32_639
  let v825 : BitVec 1 := Scalar.andi v824 v821
  let v826 : BitVec 32 := Scalar.addi v820 v819
  let v827 : BitVec 32 := Scalar.select v825 v826 v820
  let c1_i32_642 : BitVec 32 := 1#32
  let v828 : BitVec 32 := Scalar.muli v827 c1_i32_642
  let v829 : BitVec 32 := Scalar.addi c0_i32_643 v828
  v829.toNat
def k0_dev38 (d0 : Dev nD) : Nat :=
  let c0_i32_655 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_646 : BitVec 32 := 8#32
  let v836 : BitVec 32 := Scalar.addi v2 c8_i32_646
  let c16_i32_647 : BitVec 32 := 16#32
  let c0_i32_648 : BitVec 32 := 0#32
  let v837 : BitVec 1 := Scalar.cmpi .eq c16_i32_647 c0_i32_648
  let c1_i32_649 : BitVec 32 := 1#32
  let v838 : BitVec 32 := Scalar.select v837 c1_i32_649 c16_i32_647
  let v839 : BitVec 32 := Scalar.remsi v836 v838
  let c0_i32_651 : BitVec 32 := 0#32
  let v841 : BitVec 1 := Scalar.cmpi .slt v839 c0_i32_651
  let c0_i32_652 : BitVec 32 := 0#32
  let v842 : BitVec 1 := Scalar.cmpi .slt v838 c0_i32_652
  let v843 : BitVec 1 := Scalar.xori v841 v842
  let c0_i32_650 : BitVec 32 := 0#32
  let v840 : BitVec 1 := Scalar.cmpi .ne v839 c0_i32_650
  let v844 : BitVec 1 := Scalar.andi v843 v840
  let v845 : BitVec 32 := Scalar.addi v839 v838
  let v846 : BitVec 32 := Scalar.select v844 v845 v839
  let c1_i32_654 : BitVec 32 := 1#32
  let v847 : BitVec 32 := Scalar.muli v846 c1_i32_654
  let v848 : BitVec 32 := Scalar.addi c0_i32_655 v847
  v848.toNat
def k0_dev39 (d0 : Dev nD) : Nat :=
  let c0_i32_668 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_658 : BitVec 32 := 9#32
  let v855 : BitVec 32 := Scalar.addi v2 c9_i32_658
  let c16_i32_659 : BitVec 32 := 16#32
  let c0_i32_660 : BitVec 32 := 0#32
  let v856 : BitVec 1 := Scalar.cmpi .eq c16_i32_659 c0_i32_660
  let c1_i32_661 : BitVec 32 := 1#32
  let v857 : BitVec 32 := Scalar.select v856 c1_i32_661 c16_i32_659
  let v858 : BitVec 32 := Scalar.remsi v855 v857
  let c0_i32_663 : BitVec 32 := 0#32
  let v860 : BitVec 1 := Scalar.cmpi .slt v858 c0_i32_663
  let c0_i32_664 : BitVec 32 := 0#32
  let v861 : BitVec 1 := Scalar.cmpi .slt v857 c0_i32_664
  let v862 : BitVec 1 := Scalar.xori v860 v861
  let c0_i32_662 : BitVec 32 := 0#32
  let v859 : BitVec 1 := Scalar.cmpi .ne v858 c0_i32_662
  let v863 : BitVec 1 := Scalar.andi v862 v859
  let v864 : BitVec 32 := Scalar.addi v858 v857
  let v865 : BitVec 32 := Scalar.select v863 v864 v858
  let c1_i32_667 : BitVec 32 := 1#32
  let v866 : BitVec 32 := Scalar.muli v865 c1_i32_667
  let v867 : BitVec 32 := Scalar.addi c0_i32_668 v866
  v867.toNat
def k0_dev40 (d0 : Dev nD) : Nat :=
  let c0_i32_681 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_671 : BitVec 32 := 10#32
  let v874 : BitVec 32 := Scalar.addi v2 c10_i32_671
  let c16_i32_672 : BitVec 32 := 16#32
  let c0_i32_673 : BitVec 32 := 0#32
  let v875 : BitVec 1 := Scalar.cmpi .eq c16_i32_672 c0_i32_673
  let c1_i32_674 : BitVec 32 := 1#32
  let v876 : BitVec 32 := Scalar.select v875 c1_i32_674 c16_i32_672
  let v877 : BitVec 32 := Scalar.remsi v874 v876
  let c0_i32_676 : BitVec 32 := 0#32
  let v879 : BitVec 1 := Scalar.cmpi .slt v877 c0_i32_676
  let c0_i32_677 : BitVec 32 := 0#32
  let v880 : BitVec 1 := Scalar.cmpi .slt v876 c0_i32_677
  let v881 : BitVec 1 := Scalar.xori v879 v880
  let c0_i32_675 : BitVec 32 := 0#32
  let v878 : BitVec 1 := Scalar.cmpi .ne v877 c0_i32_675
  let v882 : BitVec 1 := Scalar.andi v881 v878
  let v883 : BitVec 32 := Scalar.addi v877 v876
  let v884 : BitVec 32 := Scalar.select v882 v883 v877
  let c1_i32_680 : BitVec 32 := 1#32
  let v885 : BitVec 32 := Scalar.muli v884 c1_i32_680
  let v886 : BitVec 32 := Scalar.addi c0_i32_681 v885
  v886.toNat
def k0_dev41 (d0 : Dev nD) : Nat :=
  let c0_i32_694 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_684 : BitVec 32 := 11#32
  let v893 : BitVec 32 := Scalar.addi v2 c11_i32_684
  let c16_i32_685 : BitVec 32 := 16#32
  let c0_i32_686 : BitVec 32 := 0#32
  let v894 : BitVec 1 := Scalar.cmpi .eq c16_i32_685 c0_i32_686
  let c1_i32_687 : BitVec 32 := 1#32
  let v895 : BitVec 32 := Scalar.select v894 c1_i32_687 c16_i32_685
  let v896 : BitVec 32 := Scalar.remsi v893 v895
  let c0_i32_689 : BitVec 32 := 0#32
  let v898 : BitVec 1 := Scalar.cmpi .slt v896 c0_i32_689
  let c0_i32_690 : BitVec 32 := 0#32
  let v899 : BitVec 1 := Scalar.cmpi .slt v895 c0_i32_690
  let v900 : BitVec 1 := Scalar.xori v898 v899
  let c0_i32_688 : BitVec 32 := 0#32
  let v897 : BitVec 1 := Scalar.cmpi .ne v896 c0_i32_688
  let v901 : BitVec 1 := Scalar.andi v900 v897
  let v902 : BitVec 32 := Scalar.addi v896 v895
  let v903 : BitVec 32 := Scalar.select v901 v902 v896
  let c1_i32_693 : BitVec 32 := 1#32
  let v904 : BitVec 32 := Scalar.muli v903 c1_i32_693
  let v905 : BitVec 32 := Scalar.addi c0_i32_694 v904
  v905.toNat
def k0_dev42 (d0 : Dev nD) : Nat :=
  let c0_i32_707 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_697 : BitVec 32 := 12#32
  let v912 : BitVec 32 := Scalar.addi v2 c12_i32_697
  let c16_i32_698 : BitVec 32 := 16#32
  let c0_i32_699 : BitVec 32 := 0#32
  let v913 : BitVec 1 := Scalar.cmpi .eq c16_i32_698 c0_i32_699
  let c1_i32_700 : BitVec 32 := 1#32
  let v914 : BitVec 32 := Scalar.select v913 c1_i32_700 c16_i32_698
  let v915 : BitVec 32 := Scalar.remsi v912 v914
  let c0_i32_702 : BitVec 32 := 0#32
  let v917 : BitVec 1 := Scalar.cmpi .slt v915 c0_i32_702
  let c0_i32_703 : BitVec 32 := 0#32
  let v918 : BitVec 1 := Scalar.cmpi .slt v914 c0_i32_703
  let v919 : BitVec 1 := Scalar.xori v917 v918
  let c0_i32_701 : BitVec 32 := 0#32
  let v916 : BitVec 1 := Scalar.cmpi .ne v915 c0_i32_701
  let v920 : BitVec 1 := Scalar.andi v919 v916
  let v921 : BitVec 32 := Scalar.addi v915 v914
  let v922 : BitVec 32 := Scalar.select v920 v921 v915
  let c1_i32_706 : BitVec 32 := 1#32
  let v923 : BitVec 32 := Scalar.muli v922 c1_i32_706
  let v924 : BitVec 32 := Scalar.addi c0_i32_707 v923
  v924.toNat
def k0_dev43 (d0 : Dev nD) : Nat :=
  let c0_i32_720 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_710 : BitVec 32 := 13#32
  let v931 : BitVec 32 := Scalar.addi v2 c13_i32_710
  let c16_i32_711 : BitVec 32 := 16#32
  let c0_i32_712 : BitVec 32 := 0#32
  let v932 : BitVec 1 := Scalar.cmpi .eq c16_i32_711 c0_i32_712
  let c1_i32_713 : BitVec 32 := 1#32
  let v933 : BitVec 32 := Scalar.select v932 c1_i32_713 c16_i32_711
  let v934 : BitVec 32 := Scalar.remsi v931 v933
  let c0_i32_715 : BitVec 32 := 0#32
  let v936 : BitVec 1 := Scalar.cmpi .slt v934 c0_i32_715
  let c0_i32_716 : BitVec 32 := 0#32
  let v937 : BitVec 1 := Scalar.cmpi .slt v933 c0_i32_716
  let v938 : BitVec 1 := Scalar.xori v936 v937
  let c0_i32_714 : BitVec 32 := 0#32
  let v935 : BitVec 1 := Scalar.cmpi .ne v934 c0_i32_714
  let v939 : BitVec 1 := Scalar.andi v938 v935
  let v940 : BitVec 32 := Scalar.addi v934 v933
  let v941 : BitVec 32 := Scalar.select v939 v940 v934
  let c1_i32_719 : BitVec 32 := 1#32
  let v942 : BitVec 32 := Scalar.muli v941 c1_i32_719
  let v943 : BitVec 32 := Scalar.addi c0_i32_720 v942
  v943.toNat
def k0_dev44 (d0 : Dev nD) : Nat :=
  let c0_i32_733 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_723 : BitVec 32 := 14#32
  let v950 : BitVec 32 := Scalar.addi v2 c14_i32_723
  let c16_i32_724 : BitVec 32 := 16#32
  let c0_i32_725 : BitVec 32 := 0#32
  let v951 : BitVec 1 := Scalar.cmpi .eq c16_i32_724 c0_i32_725
  let c1_i32_726 : BitVec 32 := 1#32
  let v952 : BitVec 32 := Scalar.select v951 c1_i32_726 c16_i32_724
  let v953 : BitVec 32 := Scalar.remsi v950 v952
  let c0_i32_728 : BitVec 32 := 0#32
  let v955 : BitVec 1 := Scalar.cmpi .slt v953 c0_i32_728
  let c0_i32_729 : BitVec 32 := 0#32
  let v956 : BitVec 1 := Scalar.cmpi .slt v952 c0_i32_729
  let v957 : BitVec 1 := Scalar.xori v955 v956
  let c0_i32_727 : BitVec 32 := 0#32
  let v954 : BitVec 1 := Scalar.cmpi .ne v953 c0_i32_727
  let v958 : BitVec 1 := Scalar.andi v957 v954
  let v959 : BitVec 32 := Scalar.addi v953 v952
  let v960 : BitVec 32 := Scalar.select v958 v959 v953
  let c1_i32_732 : BitVec 32 := 1#32
  let v961 : BitVec 32 := Scalar.muli v960 c1_i32_732
  let v962 : BitVec 32 := Scalar.addi c0_i32_733 v961
  v962.toNat
def k0_dev45 (d0 : Dev nD) : Nat :=
  let c0_i32_746 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_736 : BitVec 32 := 15#32
  let v969 : BitVec 32 := Scalar.addi v2 c15_i32_736
  let c16_i32_737 : BitVec 32 := 16#32
  let c0_i32_738 : BitVec 32 := 0#32
  let v970 : BitVec 1 := Scalar.cmpi .eq c16_i32_737 c0_i32_738
  let c1_i32_739 : BitVec 32 := 1#32
  let v971 : BitVec 32 := Scalar.select v970 c1_i32_739 c16_i32_737
  let v972 : BitVec 32 := Scalar.remsi v969 v971
  let c0_i32_741 : BitVec 32 := 0#32
  let v974 : BitVec 1 := Scalar.cmpi .slt v972 c0_i32_741
  let c0_i32_742 : BitVec 32 := 0#32
  let v975 : BitVec 1 := Scalar.cmpi .slt v971 c0_i32_742
  let v976 : BitVec 1 := Scalar.xori v974 v975
  let c0_i32_740 : BitVec 32 := 0#32
  let v973 : BitVec 1 := Scalar.cmpi .ne v972 c0_i32_740
  let v977 : BitVec 1 := Scalar.andi v976 v973
  let v978 : BitVec 32 := Scalar.addi v972 v971
  let v979 : BitVec 32 := Scalar.select v977 v978 v972
  let c1_i32_745 : BitVec 32 := 1#32
  let v980 : BitVec 32 := Scalar.muli v979 c1_i32_745
  let v981 : BitVec 32 := Scalar.addi c0_i32_746 v980
  v981.toNat
def k0_off4 (d0 : Dev nD) (c1_i32_757 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v998 : BitVec 32 := Scalar.subi v2 c1_i32_757
  let c16_i32_758 : BitVec 32 := 16#32
  let c0_i32_759 : BitVec 32 := 0#32
  let v999 : BitVec 1 := Scalar.cmpi .eq c16_i32_758 c0_i32_759
  let c1_i32_760 : BitVec 32 := 1#32
  let v1000 : BitVec 32 := Scalar.select v999 c1_i32_760 c16_i32_758
  let v1001 : BitVec 32 := Scalar.remsi v998 v1000
  let c0_i32_762 : BitVec 32 := 0#32
  let v1003 : BitVec 1 := Scalar.cmpi .slt v1001 c0_i32_762
  let c0_i32_763 : BitVec 32 := 0#32
  let v1004 : BitVec 1 := Scalar.cmpi .slt v1000 c0_i32_763
  let v1005 : BitVec 1 := Scalar.xori v1003 v1004
  let c0_i32_761 : BitVec 32 := 0#32
  let v1002 : BitVec 1 := Scalar.cmpi .ne v1001 c0_i32_761
  let v1006 : BitVec 1 := Scalar.andi v1005 v1002
  let v1007 : BitVec 32 := Scalar.addi v1001 v1000
  let v1008 : BitVec 32 := Scalar.select v1006 v1007 v1001
  let c32_i32_764 : BitVec 32 := 32#32
  let v1009 : BitVec 32 := Scalar.muli v1008 c32_i32_764
  let v1010 : Index := Scalar.indexCast v1009
  let c0_765 : Index := 0#32
  ![v1010.toNat, 0]
abbrev stage0_0 : Fin 1 → Memref sig .tc .vmem S1x512x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S16x512x512 : Shape := ⟨3, ![16, 512, 512]⟩
abbrev S_ : Shape := ⟨0, ![]⟩
abbrev S512x512 : Shape := ⟨2, ![512, 512]⟩

abbrev nBuf : Space → Nat
  | .hbm => 5
  | .vmem => 0
  | .smem => 0
  | _ => 0

abbrev bufTy : (tb : Table) → Fin (tcTables nBuf tb) → BufTy
  | .hbm, ⟨0, _⟩ => ⟨S16x512x512, .bf16⟩
  | .hbm, ⟨1, _⟩ => ⟨S16x512x512, .f32⟩
  | .hbm, ⟨2, _⟩ => ⟨S_, .f32⟩
  | .hbm, ⟨3, _⟩ => ⟨S512x512, .f32⟩
  | .hbm, ⟨4, _⟩ => ⟨S512x512, .bf16⟩
  | _, _ => ⟨S16x512x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Proof.Prog.lean ====
/-
The kernel's body with its unrolled steps grouped: the printed body is one straight line of 170 memory
operations, in which each step of the protocol stands once per offset. Here each step is written once,
in the offset, and the body is the steps run over lists of offsets. The printed body equals this one by
unfolding (`body_eq`), so the proof treats each step once.
-/
module

public import proofs.«01_k».proof.Proof.Gen.KernelIdeal
public import proofs.«01_k».proof.Proof.Gen.KernelIdeal.Skeleton

@[expose] public section

noncomputable section

namespace Cert.Shift

open Cert.KernelIdeal Cert.KernelIdeal.Gen
open Idealize.ShloMosaic Idealize.SL.Sem

variable {F : FTy → Type} [FloatOps F]

/-- Programs of a TensorCore of this kernel. -/
abbrev Pg (F : FTy → Type) [FloatOps F] (α : Type) := Prog (TpuEff nD τ sig (Elt F) Λ₀ .tc) α

/-- A step run for each entry of a list, in order. -/
def each {ι : Type} (l : List ι) (f : ι → Pg F PUnit) : Pg F PUnit := l.foldr (fun a p => f a >>= fun _ => p) (pure ⟨⟩)

/-! ## The memrefs -/

abbrev xM : Memref sig .tc .vmem S1x512x512 .bf16 := Memref.whole cc0_stg0_0
abbrev oM : Memref sig .tc .vmem S512x512 .bf16 := Memref.whole cc0_stg1_0
abbrev aM : Memref sig .tc .vmem S512x512 .bf16 := Memref.whole cc0_scratch0
abbrev rM : Memref sig .tc .vmem S15x32x512 .bf16 := Memref.whole cc0_scratch1

theorem inb_sem : ∀ (k : Fin 30) (a), (![k.val] : Fin 1 → ℕ) a + S1.size a ≤ S30.size a := by decide
theorem inb_slot : ∀ (s : Fin 15) (a), (![s.val, 0, 0] : Fin 3 → ℕ) a + S1x32x512.size a ≤ S15x32x512.size a := by decide
theorem words_slot : ∀ s : Fin 15, (Rect.unit (s := S15x32x512) ![s.val, 0, 0] S1x32x512.size (inb_slot s)).WholeWords (EltTy.packing .bf16) := by
  decide +kernel

/-- Semaphore `k` of an array of thirty. -/
abbrev semAt (a : DmaSems sig S30) (k : Fin 30) : DmaSem sig :=
  ((a.slice (Rect.unit (s := S30) ![k.val] S1.size (inb_sem k))).squeeze S_ squeezes_S1_S_).sem
abbrev lo (e : Fin 15) : Fin 30 := ⟨e.val, by omega⟩
abbrev hi (e : Fin 15) : Fin 30 := ⟨15 + e.val, by omega⟩

abbrev barS : Sem sig := (SemArray.scalar (sig.barrier 0 rfl) : Sems sig S_).sem

/-- Receive slot `s` as a rectangle and as a memref. -/
abbrev slotR (s : Fin 15) : Rect S15x32x512 := Rect.unit (s := S15x32x512) ![s.val, 0, 0] S1x32x512.size (inb_slot s)
abbrev slotM (s : Fin 15) : Memref sig .tc .vmem S32x512 .bf16 :=
  (rM.slice (slotR s) (fun _ => rfl)).squeeze S32x512 squeezes_S1x32x512_S32x512
/-- The chunk at given offsets of the accumulator. -/
abbrev chunkM (off : Fin 2 → ℕ) (h : ∀ a, off a + S32x512.size a ≤ S512x512.size a) : Memref sig .tc .vmem S32x512 .bf16 :=
  aM.slice (Rect.unit (s := S512x512) off S32x512.size h) (fun _ => rfl)

/-! ## The devices addressed, as printed -/

def sigDev (c : Dev nD) : Fin 15 → Dev nD
  | 0 => ⟨k0_dev1 c, k0_dev1_lt c⟩ | 1 => ⟨k0_dev2 c, k0_dev2_lt c⟩ | 2 => ⟨k0_dev3 c, k0_dev3_lt c⟩
  | 3 => ⟨k0_dev4 c, k0_dev4_lt c⟩ | 4 => ⟨k0_dev5 c, k0_dev5_lt c⟩ | 5 => ⟨k0_dev6 c, k0_dev6_lt c⟩
  | 6 => ⟨k0_dev7 c, k0_dev7_lt c⟩ | 7 => ⟨k0_dev8 c, k0_dev8_lt c⟩ | 8 => ⟨k0_dev9 c, k0_dev9_lt c⟩
  | 9 => ⟨k0_dev10 c, k0_dev10_lt c⟩ | 10 => ⟨k0_dev11 c, k0_dev11_lt c⟩ | 11 => ⟨k0_dev12 c, k0_dev12_lt c⟩
  | 12 => ⟨k0_dev13 c, k0_dev13_lt c⟩ | 13 => ⟨k0_dev14 c, k0_dev14_lt c⟩ | 14 => ⟨k0_dev15 c, k0_dev15_lt c⟩

def fstDev (c : Dev nD) : Fin 15 → Dev nD
  | 0 => ⟨k0_dev16 c, k0_dev16_lt c⟩ | 1 => ⟨k0_dev17 c, k0_dev17_lt c⟩ | 2 => ⟨k0_dev18 c, k0_dev18_lt c⟩
  | 3 => ⟨k0_dev19 c, k0_dev19_lt c⟩ | 4 => ⟨k0_dev20 c, k0_dev20_lt c⟩ | 5 => ⟨k0_dev21 c, k0_dev21_lt c⟩
  | 6 => ⟨k0_dev22 c, k0_dev22_lt c⟩ | 7 => ⟨k0_dev23 c, k0_dev23_lt c⟩ | 8 => ⟨k0_dev24 c, k0_dev24_lt c⟩
  | 9 => ⟨k0_dev25 c, k0_dev25_lt c⟩ | 10 => ⟨k0_dev26 c, k0_dev26_lt c⟩ | 11 => ⟨k0_dev27 c, k0_dev27_lt c⟩
  | 12 => ⟨k0_dev28 c, k0_dev28_lt c⟩ | 13 => ⟨k0_dev29 c, k0_dev29_lt c⟩ | 14 => ⟨k0_dev30 c, k0_dev30_lt c⟩

def sndDev (c : Dev nD) : Fin 15 → Dev nD
  | 0 => ⟨k0_dev31 c, k0_dev31_lt c⟩ | 1 => ⟨k0_dev32 c, k0_dev32_lt c⟩ | 2 => ⟨k0_dev33 c, k0_dev33_lt c⟩
  | 3 => ⟨k0_dev34 c, k0_dev34_lt c⟩ | 4 => ⟨k0_dev35 c, k0_dev35_lt c⟩ | 5 => ⟨k0_dev36 c, k0_dev36_lt c⟩
  | 6 => ⟨k0_dev37 c, k0_dev37_lt c⟩ | 7 => ⟨k0_dev38 c, k0_dev38_lt c⟩ | 8 => ⟨k0_dev39 c, k0_dev39_lt c⟩
  | 9 => ⟨k0_dev40 c, k0_dev40_lt c⟩ | 10 => ⟨k0_dev41 c, k0_dev41_lt c⟩ | 11 => ⟨k0_dev42 c, k0_dev42_lt c⟩
  | 12 => ⟨k0_dev43 c, k0_dev43_lt c⟩ | 13 => ⟨k0_dev44 c, k0_dev44_lt c⟩ | 14 => ⟨k0_dev45 c, k0_dev45_lt c⟩

/-! ## The steps -/

abbrev wholeA : Rect S512x512 := Rect.unit (s := S512x512) ![0, 0] S512x512.size inb_S512x512_S512x512_0_0
abbrev ownR (c : Dev nD) : Rect S512x512 := Rect.unit (s := S512x512) (k0_off2 c) S32x512.size (k0_off2_inb c)
abbrev farR (c : Dev nD) (e : Fin 15) : Rect S512x512 :=
  Rect.unit (s := S512x512) (k0_off4 c (BitVec.ofNat 32 (1 + e.val))) S32x512.size (k0_off4_inb c e)

def stepSig (c : Dev nD) (e : Fin 15) : Pg F PUnit := semSignalWord (sigDev c e) barS 1#32

abbrev fstM (c : Dev nD) (e : Fin 15) := chunkM (k0_off1 c (BitVec.ofNat 32 (1 + e.val))) (k0_off1_inb c e)
abbrev ownM (c : Dev nD) := chunkM (k0_off3 c) (k0_off3_inb c)

def stepSend1 (c : Dev nD) (e : Fin 15) : Pg F PUnit :=
  Prog.lift (.enqueueDma (fstM c e) (.remote (Dev.tc (fstDev c e)) (slotM e.rev) (.dma (semAt cc0_scratch2 (lo e))))
    (.dma (semAt cc0_scratch3 (lo e.rev))) ((Memref.isWhole_whole _).wordExact_slice rfl _ (k0_off1_wordsbf16 c e))
    (((Memref.isWhole_whole _).wordExact_slice rfl _ (words_slot e.rev)).reshape _ _) ⟨⟨rfl, Or.inl rfl⟩, trivial⟩)

def stepRecv1 (e : Fin 15) : Pg F PUnit :=
  Prog.lift (.waitDma2 (semAt cc0_scratch3 (lo e.rev)) (slotM e.rev) (slotM e.rev)
    (((Memref.isWhole_whole _).wordExact_slice rfl _ (words_slot e.rev)).reshape _ _)
    (((Memref.isWhole_whole _).wordExact_slice rfl _ (words_slot e.rev)).reshape _ _))

def loadOwn (c : Dev nD) : Pg F (Vec F S32x512 .bf16) := Prog.lift (.load aM (ownR c).toLoadRect (View.loadsAt_vmem h_S32x512))
def loadSlot (s : Fin 15) : Pg F (Vec F S1x32x512 .bf16) := Prog.lift (.load rM (slotR s).toLoadRect (View.loadsAt_vmem h_S1x32x512))
def storeOwn (c : Dev nD) (v : FVec F S32x512 .bf16) : Pg F PUnit :=
  Prog.lift (.store aM (ownR c) v Finset.univ
    (View.stores_vmem h_S32x512 ((Memref.isWhole_whole _).storeExact_slice rfl _ (k0_off2_packedbf16 c)) (fun _ => rfl)) (.inl rfl))

def stepSend2 (c : Dev nD) (e : Fin 15) : Pg F PUnit :=
  Prog.lift (.enqueueDma (ownM c) (.remote (Dev.tc (sndDev c e)) (ownM c) (.dma (semAt cc0_scratch2 (hi e))))
    (.dma (semAt cc0_scratch3 (hi e.rev))) ((Memref.isWhole_whole _).wordExact_slice rfl _ (k0_off3_wordsbf16 c))
    ((Memref.isWhole_whole _).wordExact_slice rfl _ (k0_off3_wordsbf16 c)) ⟨⟨rfl, Or.inl rfl⟩, trivial⟩)

/-- Reading a chunk of the accumulator (and, unused, of the output) and storing it to the output. -/
def copyOut (r : Rect S512x512) (hr : r.shape = S32x512) (hp : r.PackedRows (EltTy.packing .bf16)) (hn : 0 < r.shape.numel) : Pg F PUnit := do
  let v ← Prog.lift (.load aM r.toLoadRect (View.loadsAt_vmem hn))
  let _ ← Prog.lift (.load oM r.toLoadRect (View.loadsAt_vmem hn))
  Prog.lift (.store oM r v Finset.univ
    (View.stores_vmem hn ((Memref.isWhole_whole _).storeExact_slice rfl _ hp) (fun _ => rfl)) (.inl rfl))

def stepRecv2 (c : Dev nD) (e : Fin 15) : Pg F PUnit := do
  Prog.lift (.waitDma2 (semAt cc0_scratch3 (hi e.rev)) (ownM c) (ownM c)
    ((Memref.isWhole_whole _).wordExact_slice rfl _ (k0_off3_wordsbf16 c)) ((Memref.isWhole_whole _).wordExact_slice rfl _ (k0_off3_wordsbf16 c)))
  copyOut (farR c e) rfl (k0_off4_packedbf16 c e) h_S32x512

def stepDone1 (c : Dev nD) (e : Fin 15) : Pg F PUnit :=
  Prog.lift (.waitDma2 (semAt cc0_scratch2 (lo e)) (slotM e.rev) (fstM c e)
    (((Memref.isWhole_whole _).wordExact_slice rfl _ (words_slot e.rev)).reshape _ _) ((Memref.isWhole_whole _).wordExact_slice rfl _ (k0_off1_wordsbf16 c e)))

def stepDone2 (c : Dev nD) (e : Fin 15) : Pg F PUnit :=
  Prog.lift (.waitDma2 (semAt cc0_scratch2 (hi e)) (ownM c) (ownM c)
    ((Memref.isWhole_whole _).wordExact_slice rfl _ (k0_off3_wordsbf16 c)) ((Memref.isWhole_whole _).wordExact_slice rfl _ (k0_off3_wordsbf16 c)))

/-! ## The body -/

abbrev up : List (Fin 15) := [0, 1, 2, 3, 4, 5, 6, 7, 8, 9, 10, 11, 12, 13, 14]

def bodyP (c : Dev nD) : Pg F PUnit := do
  let v3 ← Prog.lift (.load xM (Rect.unit (s := S1x512x512) ![0, 0, 0] S1x512x512.size inb_S1x512x512_S1x512x512_0_0_0).toLoadRect (View.loadsAt_vmem h_S1x512x512))
  let _ ← Prog.lift (.load aM wholeA.toLoadRect (View.loadsAt_vmem h_S512x512))
  Prog.lift (.store aM wholeA (k0_pay1 v3) Finset.univ
    (View.stores_vmem h_S512x512 ((Memref.isWhole_whole _).storeExact_slice rfl _ packedbf16_S512x512_S512x512_0_0) (fun _ => rfl)) (.inl rfl))
  each up (stepSig c)
  semWaitWord barS 15#32
  each up (stepSend1 c)
  each [0, 1, 2, 3, 4] stepRecv1
  let a ← loadOwn c
  let r14 ← loadSlot 14
  let r13 ← loadSlot 13
  let r12 ← loadSlot 12
  let r11 ← loadSlot 11
  let r10 ← loadSlot 10
  let _ ← loadOwn c
  storeOwn c (k0_pay4 (k0_pay2 a r14 r13 r12 r11) (k0_pay3 r10))
  each [5, 6, 7, 8, 9] stepRecv1
  let a ← loadOwn c
  let r9 ← loadSlot 9
  let r8 ← loadSlot 8
  let r7 ← loadSlot 7
  let r6 ← loadSlot 6
  let r5 ← loadSlot 5
  let _ ← loadOwn c
  storeOwn c (k0_pay6 (k0_pay5 a r9 r8) r7 r6 r5)
  each [10, 11, 12, 13, 14] stepRecv1
  let a ← loadOwn c
  let r4 ← loadSlot 4
  let r3 ← loadSlot 3
  let r2 ← loadSlot 2
  let r1 ← loadSlot 1
  let r0 ← loadSlot 0
  let _ ← loadOwn c
  storeOwn c (k0_pay7 a r4 r3 r2 r1 r0)
  each up (stepSend2 c)
  copyOut (ownR c) rfl (k0_off2_packedbf16 c) h_S32x512
  each up (stepRecv2 c)
  each up (stepDone1 c)
  each up (stepDone2 c)

set_option maxRecDepth 65536 in
theorem body_eq : cc0_body (F := F) xM (Memref.isWhole_whole _) oM (Memref.isWhole_whole _) aM (Memref.isWhole_whole _) rM (Memref.isWhole_whole _) cc0_scratch2 cc0_scratch3
    = Prog.op .deviceId bodyP := by
  exact (rfl)

end Cert.Shift

end
-- ==== Proof.Sched.lean ====
/-
Devices, cells, contents and the schedule of the all-to-all sum.

Device `c` pairs an offset `e` with the device `pe c e`, `e + 1` places round the mesh. Each device splits its 512 rows
into sixteen chunks of 32, chunk `j` belonging to device `j`. A device signals every other device's barrier, handing it
the receive slot that device will write; after its own barrier wait it sends every other device that device's chunk
(first phase), adds the fifteen chunks that arrive to its own, sends the sum to every other device (second phase), and
copies all sixteen summed chunks to its result.
-/
module

public import proofs.«01_k».proof.Proof.Prog
public import proofs.«01_k».proof.Proof.Gen.KernelIdeal.Launch
public import Idealize.ShloMosaic.Lib.Pipeline.Launch
public import Idealize.ShloMosaic.Lib.Pipeline.Kit
public import Idealize.ShloMosaic.Lib.Ring
public import Idealize.ShloMosaic.Lib.Transfers
public import Idealize.ShloMosaic.Lib.Tactic

@[expose] public section

noncomputable section

namespace Cert.Shift

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## Devices and chunks -/

set_option backward.proofsInPublic true in
/-- The device `e + 1` places after `c`. -/
def pe (c : Dev nD) (e : Fin 15) : Dev nD := ⟨(c.val + e.val + 1) % 16, Nat.mod_lt _ (by decide)⟩

theorem pe_pe : ∀ (c : Dev nD) (e : Fin 15), pe (pe c e) e.rev = c := by decide +kernel
theorem pe_pe' (c : Dev nD) (e : Fin 15) : pe (pe c e.rev) e = c := by
  have h := pe_pe c e.rev; rwa [Fin.rev_rev] at h
theorem pe_ne : ∀ (c : Dev nD) (e : Fin 15), pe c e ≠ c := by decide +kernel
theorem pe_inj : ∀ (c : Dev nD), Function.Injective (pe c) := by decide +kernel
theorem pe_cover : ∀ c : Dev nD, (Finset.univ : Finset (Dev nD)) = insert c (Finset.univ.map ⟨pe c, pe_inj c⟩) := by decide +kernel

theorem inb_chunk : ∀ (j : Dev nD) (a), (![32 * j.val, 0] : Fin 2 → ℕ) a + S32x512.size a ≤ S512x512.size a := by decide +kernel

/-- Chunk `j` of the 512 rows. -/
abbrev chR (j : Dev nD) : Rect S512x512 := Rect.unit (s := S512x512) ![32 * j.val, 0] S32x512.size (inb_chunk j)
abbrev chM (j : Dev nD) : Memref sig .tc .vmem S32x512 .bf16 := chunkM ![32 * j.val, 0] (inb_chunk j)

/-! The devices and offsets the kernel computes. -/

theorem sigDev_eq : ∀ (c : Dev nD) (e : Fin 15), sigDev c e = pe c e := by decide +kernel
theorem fstDev_eq : ∀ (c : Dev nD) (e : Fin 15), fstDev c e = pe c e := by decide +kernel
theorem sndDev_eq : ∀ (c : Dev nD) (e : Fin 15), sndDev c e = pe c e := by decide +kernel
theorem off1_eq : ∀ (c : Dev nD) (e : Fin 15), k0_off1 c (BitVec.ofNat 32 (1 + e.val)) = ![32 * (pe c e).val, 0] := by decide +kernel
theorem off4_eq : ∀ (c : Dev nD) (e : Fin 15), k0_off4 c (BitVec.ofNat 32 (1 + e.val)) = ![32 * (pe c e.rev).val, 0] := by decide +kernel

theorem chunkM_eq {off : Fin 2 → ℕ} {h : ∀ a, off a + S32x512.size a ≤ S512x512.size a} {j : Dev nD} (e : off = ![32 * j.val, 0]) :
    chunkM off h = chM j := by subst e; rfl
theorem chunkR_eq {off : Fin 2 → ℕ} {h : ∀ a, off a + S32x512.size a ≤ S512x512.size a} {j : Dev nD} (e : off = ![32 * j.val, 0]) :
    Rect.unit (s := S512x512) off S32x512.size h = chR j := by subst e; rfl
theorem fstM_eq (c : Dev nD) (e : Fin 15) : fstM c e = chM (pe c e) := chunkM_eq (off1_eq c e)
theorem ownM_eq (c : Dev nD) : ownM c = chM c := chunkM_eq (k0_off3_eq c)
theorem ownR_eq (c : Dev nD) : ownR c = chR c := chunkR_eq (k0_off2_eq c)
theorem farR_eq (c : Dev nD) (e : Fin 15) : farR c e = chR (pe c e.rev) := chunkR_eq (off4_eq c e)

/-! ## Cells -/

/-- The transfers' cells: first and second phase's send (`s1`, `s2`) and receive (`r1`, `r2`). -/
inductive Kd where
  | s1 | s2 | r1 | r2
deriving DecidableEq

instance : Fintype Kd := ⟨{.s1, .s2, .r1, .r2}, fun k => by cases k <;> decide⟩

/-- A device's cells: its barrier, and one of each kind per offset. -/
abbrev CI : Type := Option (Kd × Fin 15)

abbrev osem : Kd × Fin 15 → SemLoc sig
  | (.s1, e) => .dma (semAt cc0_scratch2 (lo e))
  | (.s2, e) => .dma (semAt cc0_scratch2 (hi e))
  | (.r1, s) => .dma (semAt cc0_scratch3 (lo s))
  | (.r2, s) => .dma (semAt cc0_scratch3 (hi s))

abbrev csem : CI → SemLoc sig
  | none => .reg barS
  | some k => osem k

abbrev cel (c : Dev nD) (k : CI) : GSem nD τ sig := ((c : Thread nD τ), csem k)

/-- The kind of a semaphore, read off its number. -/
def kindOf : SemLoc sig → Option CI
  | .reg _ => some none
  | .dma q =>
    if q.val < 2 then none
    else some (some (if q.val < 17 then .s1 else if q.val < 32 then .s2 else if q.val < 47 then .r1 else .r2,
      ⟨(q.val - 2) % 15, Nat.mod_lt _ (by decide)⟩))

theorem kindOf_csem : ∀ k : CI, kindOf (csem k) = some k := by decide +kernel

theorem csem_inj : Function.Injective csem := fun a b h => Option.some.inj (by rw [← kindOf_csem a, ← kindOf_csem b, h])

theorem cel_inj {c c' : Dev nD} {k k' : CI} (h : cel c k = cel c' k') : c = c' ∧ k = k' :=
  ⟨congrArg (fun g : GSem nD τ sig => g.1.1) h, csem_inj (congrArg Prod.snd h)⟩

/-- The credit of one chunk's transfer. -/
abbrev N : ℕ := (chM 0).view.dmaCredit
theorem N_pos : 0 < N := View.dmaCredit_pos _ (by decide)

/-! ## The resource algebra: the pipeline's copy and this protocol's -/

abbrev UB : Type := URounds (GSem nD τ sig) (Fin 15)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch. -/
def s₀ : MemSt nD τ sig (Elt F) := ⟨m, fun _ => 0, ρ⟩

/-! ## Contents -/

/-- Reading chunk `j` of the accumulator, reading a slot, overwriting chunk `j` of the accumulator. -/
abbrev rdA (j : Dev nD) (f : Vec F S512x512 .bf16) : Vec F S32x512 .bf16 := aM.view.readAt (Elt F) (chR j).toLoadRect f
abbrev rdR (s : Fin 15) (f : Vec F S15x32x512 .bf16) : Vec F S1x32x512 .bf16 := rM.view.readAt (Elt F) (slotR s).toLoadRect f
abbrev wrA (j : Dev nD) (f : Vec F S512x512 .bf16) (v : Vec F S32x512 .bf16) : Vec F S512x512 .bf16 :=
  (aM.access (chR j)).write (Elt F) f v Finset.univ

/-- The device's block of `x` as fetched. -/
def xstg (c : Dev nD) : Vec F S1x512x512 .bf16 :=
  (win0_0.blk (0 : Fin 1)).view.read (Elt F) ((s₀ m ρ).mem ((c : Thread nD τ).loc main_arg0))

/-- The accumulator first: the block with its leading axis dropped. -/
def acc0 (c : Dev nD) : Vec F S512x512 .bf16 := k0_pay1 (xstg m ρ c)

/-- The receive buffer as slot `s` finds it: chunk `c` of device `pe c s`'s block in the slot. -/
def landR (c : Dev nD) (s : Fin 15) : Vec F S15x32x512 .bf16 :=
  (slotM s).view.write (Elt F) (m (rM.view.loc (c : Thread nD τ))) ((chM c).view.read (Elt F) (acc0 m ρ (pe c s))) Finset.univ

/-- What the load of slot `s` reads. -/
def got (c : Dev nD) (s : Fin 15) : Vec F S1x32x512 .bf16 := rdR s (landR m ρ c s)

/-- The accumulator after each of the three groups of five additions. -/
def acc1 (c : Dev nD) : Vec F S512x512 .bf16 :=
  wrA c (acc0 m ρ c) (k0_pay4 (k0_pay2 (rdA c (acc0 m ρ c)) (got m ρ c 14) (got m ρ c 13) (got m ρ c 12) (got m ρ c 11)) (k0_pay3 (got m ρ c 10)))
def acc2 (c : Dev nD) : Vec F S512x512 .bf16 :=
  wrA c (acc1 m ρ c) (k0_pay6 (k0_pay5 (rdA c (acc1 m ρ c)) (got m ρ c 9) (got m ρ c 8)) (got m ρ c 7) (got m ρ c 6) (got m ρ c 5))
def red (c : Dev nD) : Vec F S512x512 .bf16 :=
  wrA c (acc2 m ρ c) (k0_pay7 (rdA c (acc2 m ρ c)) (got m ρ c 4) (got m ρ c 3) (got m ρ c 2) (got m ρ c 1) (got m ρ c 0))

set_option backward.proofsInPublic true in
/-- The device whose chunk a row lies in. -/
def rowDev (i : S512x512.Idx) : Dev nD := ⟨(i 0).val / 32, by have h : (i 0).val < 512 := (i 0).isLt; show _ < 16; omega⟩

/-- The result, the same on every device: each chunk as the device it belongs to summed it. -/
def outA : Vec F S512x512 .bf16 := fun i => red m ρ (rowDev i) i

/-! ## Ownership of chunks and slots -/

def aPts (c : Dev nD) (q : PosShare TreeShare) (j : Dev nD) (f : Vec F S512x512 .bf16) : sProp 𝕄 :=
  aM.view.loc (c : Thread nD τ) ↦[(chM j).view.set]{q} f
def rPts (c : Dev nD) (s : Fin 15) (f : Vec F S15x32x512 .bf16) : sProp 𝕄 :=
  rM.view.loc (c : Thread nD τ) ↦[(slotM s).view.set]{fullShare} f

omit [FloatOps F] in
instance aPts_storable (c q j f) : BI.Storable (upEmb : UEmb _ 𝕄) (aPts (F := F) c q j f) := by unfold aPts; infer_instance
omit [FloatOps F] in
instance rPts_storable (c s f) : BI.Storable (upEmb : UEmb _ 𝕄) (rPts (F := F) c s f) := by unfold rPts; infer_instance

/-! ## The schedule -/

/-- What a duty's payment hands the cell's owner: at the barrier, the payer's slot that the owner will write; at a first
    receive, the slot filled and the chunk it came from; at a second receive, the summed chunk; at a second send, the
    share of the chunk read. -/
def pay (c : Dev nD) : CI → Fin 15 → sProp 𝕄
  | none, d => iprop(∃ f, rPts (pe c d.rev) d f)
  | some (.s1, _), _ => iprop(emp)
  | some (.s2, e), _ => aPts c (Transfers.shareTok fullShare 15 e) c (red m ρ c)
  | some (.r1, s), _ => iprop(rPts c s (landR m ρ c s) ∗ aPts (pe c s) fullShare c (acc0 m ρ (pe c s)))
  | some (.r2, s), _ => aPts c fullShare (pe c s) (red m ρ (pe c s))

theorem pay_bar (c : Dev nD) (d : Fin 15) : pay m ρ c none d = iprop(∃ f, rPts (pe c d.rev) d f) := rfl
theorem pay_s1 (c : Dev nD) (e d : Fin 15) : pay m ρ c (some (.s1, e)) d = iprop(emp) := rfl
theorem pay_s2 (c : Dev nD) (e d : Fin 15) : pay m ρ c (some (.s2, e)) d = aPts c (Transfers.shareTok fullShare 15 e) c (red m ρ c) := rfl
theorem pay_r1 (c : Dev nD) (s d : Fin 15) :
    pay m ρ c (some (.r1, s)) d = iprop(rPts c s (landR m ρ c s) ∗ aPts (pe c s) fullShare c (acc0 m ρ (pe c s))) := rfl
theorem pay_r2 (c : Dev nD) (s d : Fin 15) : pay m ρ c (some (.r2, s)) d = aPts c fullShare (pe c s) (red m ρ (pe c s)) := rfl

instance pay_storable (c : Dev nD) (k : CI) (d : Fin 15) : BI.Storable (upEmb : UEmb _ 𝕄) (pay m ρ c k d) := by
  rcases k with _ | ⟨k, e⟩
  · unfold pay; infer_instance
  · cases k <;> (unfold pay; infer_instance)

def dutiesOf : CI → Finset (Fin 15)
  | none => Finset.univ
  | some _ => {0}
def amountOf : CI → ℕ
  | none => 1
  | some _ => N

/-- One round. -/
def rd : Rounds.Schedule (GSem nD τ sig) (Fin 15) 𝕄 where
  duties g r := if r = 0 ∧ g.1.2 = .tc then (kindOf g.2).elim ∅ dutiesOf else ∅
  unitless _ := False
  amount g _ _ := (kindOf g.2).elim 1 amountOf
  payload g _ d := match kindOf g.2 with
    | none => iprop(emp)
    | some k => pay m ρ g.1.1 k d
  amount_pos g _ _ _ := by
    rcases kindOf g.2 with _ | _ | _
    · exact Nat.one_pos
    · exact Nat.one_pos
    · exact N_pos

instance rd_payload_storable (g : GSem nD τ sig) (r : ℕ) (d : Fin 15) :
    BI.Storable (upEmb : UEmb _ 𝕄) ((rd (F := F) m ρ).payload g r d) := by
  show BI.Storable upEmb (match kindOf g.2 with
    | none => iprop(emp)
    | some k => pay m ρ g.1.1 k d)
  split <;> infer_instance

section Facts
variable (c : Dev nD)

theorem duties_cel (k : CI) : (rd (F := F) m ρ).duties (cel c k) 0 = dutiesOf k := by
  dsimp only [rd]; rw [if_pos ⟨rfl, rfl⟩, kindOf_csem]; rfl
theorem duties_later (g : GSem nD τ sig) : ∀ r, 1 ≤ r → (rd (F := F) m ρ).duties g r = ∅ :=
  fun r hr => by dsimp only [rd]; rw [if_neg fun h => by omega]
theorem amount_cel (k : CI) (d : Fin 15) : (rd (F := F) m ρ).amount (cel c k) 0 d = amountOf k := by
  dsimp only [rd]; rw [kindOf_csem]; rfl
theorem payload_cel (k : CI) (d : Fin 15) : (rd (F := F) m ρ).payload (cel c k) 0 d = pay m ρ c k d := by
  dsimp only [rd]; rw [kindOf_csem]
theorem expect_bar : (rd (F := F) m ρ).expect (cel c none) 0 = 15 := by
  unfold Schedule.expect Schedule.amountOf
  rw [duties_cel, Finset.sum_congr rfl fun d _ => amount_cel m ρ c none d]
  rfl
theorem expect_some (k : Kd × Fin 15) : (rd (F := F) m ρ).expect (cel c (some k)) 0 = N := by
  unfold Schedule.expect Schedule.amountOf
  rw [duties_cel, Finset.sum_congr rfl fun d _ => amount_cel m ρ c (some k) d]
  exact Finset.sum_singleton _ _
theorem rest_bar : bigSep ((rd (F := F) m ρ).duties (cel c none) 0 \ ∅) (fun d => (rd (F := F) m ρ).payload (cel c none) 0 d)
    = bigSep Finset.univ fun d : Fin 15 => iprop(∃ f, rPts (pe c d.rev) d f) := by
  rw [Finset.sdiff_empty, duties_cel]
  exact bigSep_congr fun d _ => payload_cel m ρ c none d
theorem rest_some (k : Kd × Fin 15) : bigSep ((rd (F := F) m ρ).duties (cel c (some k)) 0 \ ∅) (fun d => (rd (F := F) m ρ).payload (cel c (some k)) 0 d)
    = pay m ρ c (some k) 0 := by
  rw [Finset.sdiff_empty, duties_cel]
  exact bigSep_singleton.trans (payload_cel m ρ c (some k) 0)

end Facts

/-! ## What each device owes; the levels -/

/-- What device `c` still owes over a list of offsets: a barrier unit, a first and a second transfer each. -/
def oweBar (c : Dev nD) : List (Fin 15) → CellTallies nD τ sig Unit
  | [] => 0
  | e :: l => oweBar c l + tallyAt (cel (pe c e) none) () 1
def oweX (k : Kd) (c : Dev nD) : List (Fin 15) → CellTallies nD τ sig Unit
  | [] => 0
  | e :: l => oweX k c l + tallyAt (cel (pe c e) (some (k, e.rev))) () N

def O₀ (c : Dev nD) : CellTallies nD τ sig Unit := oweX .r2 c up + oweX .r1 c up + oweBar c up

def L (g : GSem nD τ sig) : Finset Unit := if g.1.2 = .tc then {()} else ∅
/-- Barriers first, then the first transfers' arrivals, then the second's. -/
def lvOf : Option CI → ℕ
  | some none => 1
  | some (some (.r1, _)) => 2
  | some (some (.r2, _)) => 3
  | _ => 0
def lv (g : GSem nD τ sig) (_ : Unit) : ℕ := lvOf (kindOf g.2)

theorem L_of_ne (g : GSem nD τ sig) (h : g.1.2 ≠ .tc) : L g = ∅ := if_neg h
theorem L_tc (c : Dev nD) (sm : SemLoc sig) : L ((c : Thread nD τ), sm) = {()} := if_pos rfl
theorem lv_cel (c : Dev nD) (k : CI) : lv (cel c k) () = lvOf (some k) := by unfold lv; rw [kindOf_csem]

/-- Everything owed sits at TensorCores' cells above level `n`. -/
def Above (n : ℕ) (O : CellTallies nD τ sig Unit) : Prop := ∀ g u, 0 < O g u → u ∈ L g ∧ n < lv g u

theorem above_zero (n : ℕ) : Above n 0 := fun _ _ h => absurd h (Nat.lt_irrefl 0)
theorem above_add {n : ℕ} {O O' : CellTallies nD τ sig Unit} (h : Above n O) (h' : Above n O') : Above n (O + O') := fun g u hg => by
  rw [Pi.add_apply, Finsupp.add_apply] at hg
  rcases Nat.eq_zero_or_pos (O g u) with h0 | h0
  · exact h' g u (by omega)
  · exact h g u h0
theorem above_tally {n : ℕ} {c : Dev nD} {k : CI} {v : ℕ} (h : n < lvOf (some k)) : Above n (tallyAt (cel c k) () v) := fun g u hg => by
  rw [tallyAt_apply] at hg
  by_cases hc : g = cel c k ∧ u = ()
  · rw [hc.1, L_tc]; exact ⟨Finset.mem_singleton_self _, by rw [lv_cel]; exact h⟩
  · rw [if_neg hc] at hg; exact absurd hg (Nat.lt_irrefl 0)
theorem above_oweBar (c : Dev nD) (l : List (Fin 15)) : Above 0 (oweBar c l) := by
  induction l with
  | nil => exact above_zero 0
  | cons e l ih => exact above_add ih (above_tally (by decide))
theorem above_oweX {n : ℕ} {k : Kd} (hk : ∀ s, n < lvOf (some (some (k, s)))) (c : Dev nD) (l : List (Fin 15)) : Above n (oweX k c l) := by
  induction l with
  | nil => exact above_zero n
  | cons e l ih => exact above_add ih (above_tally (hk _))
theorem above_O₀ (c : Dev nD) : Above 0 (O₀ c) :=
  above_add (above_add (above_oweX (by decide) c up) (above_oweX (by decide) c up)) (above_oweBar c up)

omit [FloatOps F] in
theorem mayWait (c : Dev nD) (sm : SemLoc sig) {O : CellTallies nD τ sig Unit} {n : ℕ} (hn : lv ((c : Thread nD τ), sm) () ≤ n) (hO : Above n O) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => (hO g u hg).1) (fun p hp => by rw [Finset.mem_singleton.mp hp]; exact hn) (fun g u hg => (hO g u hg).2)

/-! ## The records -/

/-- Every cell's invariant and that its round 0 is reached, and the levels. -/
def ctx (K : Dev nD × CI → ℕ) : sProp 𝕄 :=
  iprop(((bigSep Finset.univ fun ck : Dev nD × CI => cellInv ER (rd m ρ) (K ck) (cel ck.1 ck.2))
    ∗ bigSep Finset.univ fun ck : Dev nD × CI => reached ER (cel ck.1 ck.2) 0) ∗ levAts L lv)

instance ctx_persistent (K : Dev nD × CI → ℕ) : BI.Persistent (ctx m ρ K) := by unfold ctx; infer_instance

theorem ctx_inv (K : Dev nD × CI → ℕ) (c : Dev nD) (k : CI) : ctx m ρ K ⊢ cellInv ER (rd m ρ) (K (c, k)) (cel c k) := by
  unfold ctx
  iintro ⟨⟨#HI, -⟩, -⟩
  iapply (show (bigSep Finset.univ fun ck : Dev nD × CI => (cellInv ER (rd m ρ) (K ck) (cel ck.1 ck.2) : sProp 𝕄)) ⊢ cellInv ER (rd m ρ) (K (c, k)) (cel c k)
    from bigSep_elim (Φ := fun ck : Dev nD × CI => (cellInv ER (rd m ρ) (K ck) (cel ck.1 ck.2) : sProp 𝕄)) (Finset.mem_univ (c, k)))
  iexact HI
theorem ctx_reached (K : Dev nD × CI → ℕ) (c : Dev nD) (k : CI) : ctx m ρ K ⊢ reached ER (cel c k) 0 := by
  unfold ctx
  iintro ⟨⟨-, #HI⟩, -⟩
  iapply (show (bigSep Finset.univ fun ck : Dev nD × CI => (reached ER (cel ck.1 ck.2) 0 : sProp 𝕄)) ⊢ reached ER (cel c k) 0
    from bigSep_elim (Φ := fun ck : Dev nD × CI => (reached ER (cel ck.1 ck.2) 0 : sProp 𝕄)) (Finset.mem_univ (c, k)))
  iexact HI
theorem ctx_wait (K : Dev nD × CI → ℕ) (c : Dev nD) (sm : SemLoc sig) {O : CellTallies nD τ sig Unit} {n : ℕ}
    (hn : lv ((c : Thread nD τ), sm) () ≤ n) (hO : Above n O) : ctx m ρ K ⊢ MayWait (c : Thread nD τ) sm () O := by
  unfold ctx
  iintro ⟨-, #HL⟩
  iapply (mayWait c sm hn hO)
  iexact HL

end Cert.Shift

end
-- ==== Proof.Steps.lean ====
/-
One rule per step of the body, each proved once in the device and the offset, and the rule for a step run over a list
of offsets.
-/
module

public import proofs.«01_k».proof.Proof.Sched

@[expose] public section

noncomputable section

namespace Cert.Shift

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × CI → ℕ)

abbrev 𝒱₀ : Variants := Variants.none

/-- A program of device `c`'s TensorCore, from what is held to what its result is to satisfy. -/
abbrev wpc (c : Dev nD) {α : Type} (p : Pg F α) (Q : α → sProp 𝕄) : sProp 𝕄 :=
  wp frame (wpE (defs₀ (F := F)) 𝒱₀ (c : Thread nD τ) none) Set.univ p Q

/-! ## A family over the offsets, some still to do -/

/-- For each offset, `Φ` if it is still in the list, `Ψ` if not. -/
def fam (Φ Ψ : Fin 15 → sProp 𝕄) (l : List (Fin 15)) : sProp 𝕄 := bigSep Finset.univ fun e => if e ∈ l then Φ e else Ψ e

omit [FloatOps F] in
theorem fam_step {Φ Ψ : Fin 15 → sProp 𝕄} {a : Fin 15} {l : List (Fin 15)} (h : a ∉ l) :
    fam Φ Ψ (a :: l) ⊢ iprop(Φ a ∗ (Ψ a -∗ fam Φ Ψ l)) := by
  have hr : bigSep (Finset.univ.erase a) (fun e => if e ∈ a :: l then Φ e else Ψ e) = bigSep (Finset.univ.erase a) (fun e => if e ∈ l then Φ e else Ψ e) :=
    bigSep_congr fun e he => by
      have hne : e ≠ a := Finset.ne_of_mem_erase he
      by_cases hl : e ∈ l
      · rw [if_pos hl, if_pos (List.mem_cons_of_mem _ hl)]
      · rw [if_neg hl, if_neg fun h' => (List.mem_cons.mp h').elim hne hl]
  have h1 : fam Φ Ψ (a :: l) = iprop(Φ a ∗ bigSep (Finset.univ.erase a) (fun e => if e ∈ l then Φ e else Ψ e)) := by
    unfold fam; rw [bigSep_erase (Finset.mem_univ a), if_pos List.mem_cons_self, hr]; rfl
  have h2 : fam Φ Ψ l = iprop(Ψ a ∗ bigSep (Finset.univ.erase a) (fun e => if e ∈ l then Φ e else Ψ e)) := by
    unfold fam; rw [bigSep_erase (Finset.mem_univ a), if_neg h]; rfl
  rw [h1, h2]
  iintro ⟨Ha, Hr⟩
  isplitl [Ha]; · iexact Ha
  iintro Hp
  isplitl [Hp] <;> iassumption

omit [FloatOps F] in
theorem fam_peek {Φ Ψ : Fin 15 → sProp 𝕄} {a : Fin 15} {l : List (Fin 15)} (h : a ∉ l) :
    fam Φ Ψ l ⊢ iprop(Ψ a ∗ (Ψ a -∗ fam Φ Ψ l)) := by
  have h2 : fam Φ Ψ l = iprop(Ψ a ∗ bigSep (Finset.univ.erase a) (fun e => if e ∈ l then Φ e else Ψ e)) := by
    unfold fam; rw [bigSep_erase (Finset.mem_univ a), if_neg h]; rfl
  rw [h2]
  iintro ⟨Ha, Hr⟩
  isplitl [Ha]; · iexact Ha
  iintro Hp
  isplitl [Hp] <;> iassumption

omit [FloatOps F] in
theorem fam_nil (Φ Ψ : Fin 15 → sProp 𝕄) : fam Φ Ψ [] = bigSep Finset.univ Ψ := by
  unfold fam; exact bigSep_congr fun e _ => if_neg List.not_mem_nil
theorem mem_up : ∀ e : Fin 15, e ∈ up := by decide
omit [FloatOps F] in
theorem fam_up (Φ Ψ : Fin 15 → sProp 𝕄) : fam Φ Ψ up = bigSep Finset.univ Φ := by
  unfold fam; exact bigSep_congr fun e _ => if_pos (mem_up e)

/-- A step run over a list of offsets: the step's own rule takes `Φ` of its offset to `Ψ`, and what threads through, `G`,
    from the list to its tail. -/
theorem wp_each {c : Dev nD} {P : sProp 𝕄} [BI.Persistent P] {G : List (Fin 15) → sProp 𝕄} {Φ Ψ : Fin 15 → sProp 𝕄} {f : Fin 15 → Pg F PUnit}
    (hf : ∀ e l (Q : PUnit → sProp 𝕄), e ∉ l → iprop(P ∗ G (e :: l) ∗ Φ e ∗ ((G l ∗ Ψ e) -∗ Q ⟨⟩)) ⊢ wpc c (f e) Q) (r : List (Fin 15)) :
    ∀ (l : List (Fin 15)) (Q : PUnit → sProp 𝕄), (l ++ r).Nodup →
      iprop(P ∗ G (l ++ r) ∗ fam Φ Ψ (l ++ r) ∗ ((G r ∗ fam Φ Ψ r) -∗ Q ⟨⟩)) ⊢ wpc c (each l f) Q := by
  intro l
  induction l with
  | nil =>
    intro Q _
    show iprop(P ∗ G r ∗ fam Φ Ψ r ∗ ((G r ∗ fam Φ Ψ r) -∗ Q ⟨⟩)) ⊢ wpc c (Prog.ret ⟨⟩) Q
    unfold wpc; rw [wp_ret]
    iintro ⟨-, HG, Hf, HQ⟩
    imodintro
    iapply HQ
    isplitl [HG] <;> iassumption
  | cons a l ih =>
    intro Q hnd
    rw [List.cons_append, List.nodup_cons] at hnd
    show iprop(P ∗ G (a :: (l ++ r)) ∗ fam Φ Ψ (a :: (l ++ r)) ∗ ((G r ∗ fam Φ Ψ r) -∗ Q ⟨⟩)) ⊢ wpc c (f a >>= fun _ => each l f) Q
    unfold wpc; rw [wp_bind]
    iintro ⟨#HP, HG, Hf, HQ⟩
    ihave Hf' := (fam_step hnd.1) $$ Hf
    icases Hf' with ⟨Ha, Hback⟩
    iapply (hf a (l ++ r) _ hnd.1)
    isplitr; · iexact HP
    isplitl [HG]; · iexact HG
    isplitl [Ha]; · iexact Ha
    iintro ⟨HG, Hp⟩
    iapply (ih Q hnd.2)
    isplitr; · iexact HP
    isplitl [HG]; · iexact HG
    isplitl [Hback Hp]
    · iapply Hback; iexact Hp
    iexact HQ

/-! ## Contents on a set -/

omit [FloatOps F] in
theorem write_over {sp : Space} {s : Shape} {e : EltTy} (v : View sig .tc sp s e) (f g : v.ty.Contents (Elt F)) (w : s.Idx → Elt F e) :
    ∀ i ∈ v.set, v.write (Elt F) f w Finset.univ i = v.write (Elt F) g w Finset.univ i :=
  fun _ hi => View.write_congr (fun _ _ _ => rfl) (fun h => absurd hi h)

omit [FloatOps F] in
theorem write_read {sp : Space} {s : Shape} {e : EltTy} (v : View sig .tc sp s e) (f g : v.ty.Contents (Elt F)) :
    ∀ i ∈ v.set, v.write (Elt F) f (v.read (Elt F) g) Finset.univ i = g i := fun i hi => by
  obtain ⟨x, -, rfl⟩ := Finset.mem_map.mp hi
  rw [View.write_emb_of_mem _ _ (Finset.mem_univ x), View.read_apply, cast_cast, cast_eq]

/-! ## The steps -/

/-- What a device owes, whatever it may wait on. -/
def ow (c : Dev nD) (O : CellTallies nD τ sig Unit) : sProp 𝕄 := iprop(∃ W, owes (c : Thread nD τ) O W)

/-- Closing a cell after its round. -/
theorem close_cel (c : Dev nD) (k : CI) :
    iprop(ctx m ρ K ∗ atPos ER (cel c k) (0 + 1) ∅ 0) ⊢ iprop(|={Set.univ}=> semVal (cel c k) 0) := by
  iintro ⟨#HC, Hat⟩
  ihave #HI := (ctx_inv m ρ K c k) $$ HC
  iapply (Rounds.cell_close ER (rd m ρ) (Set.mem_univ (K (c, k))) (fun h => h) (R := 0 + 1) (duties_later m ρ (cel c k)))
  isplitr; · iexact HI
  iexact Hat

/-- The signal to the device at offset `e`, handing it slot `e`. -/
theorem step_sig (c : Dev nD) (O : CellTallies nD τ sig Unit) (e : Fin 15) (l : List (Fin 15)) (Q : PUnit → sProp 𝕄) (_ : e ∉ l) :
    iprop(ctx m ρ K ∗ ow c (O + oweBar c (e :: l)) ∗ (dutyTok ER (cel (pe c e) none) 0 e ∗ ∃ f, rPts c e f)
        ∗ ((ow c (O + oweBar c l) ∗ emp) -∗ Q ⟨⟩)) ⊢ wpc c (stepSig c e) Q := by
  unfold stepSig semSignalWord ow
  rw [sigDev_eq]
  iintro ⟨#HC, ⟨%W, HO⟩, ⟨Ht, %f, Hs⟩, HQ⟩
  ihave #HI := (ctx_inv m ρ K (pe c e) none) $$ HC
  ihave #HR := (ctx_reached m ρ K (pe c e) none) $$ HC
  iapply (Rounds.wp_signal 𝒱₀ ER (rd m ρ) (c : Thread nD τ) none (dst := (pe c e : Thread nD τ)) (κ := K (pe c e, none)) (r := 0) (d := e)
      (by rw [duties_cel m ρ (pe c e) none]; exact Finset.mem_univ _) ((amount_cel m ρ (pe c e) none e).trans (by decide)) () (O + oweBar c l)
      (show O + oweBar c (e :: l) = _ from (add_assoc _ _ _).symm)) $$ [HO Ht Hs]
  · isplitr; · iexact HI
    isplitl [HO]; · iexact HO
    isplitl [Ht]; · iexact Ht
    isplitl [Hs]
    · rw [payload_cel m ρ (pe c e) none e, pay_bar, pe_pe]; iexists f; iexact Hs
    iexact HR
  iintro HO
  rw [wp_ret]; imodintro
  iapply HQ
  isplitl; · iexists W; iexact HO
  iempintro

/-- The barrier wait: every other device's slot for this one. -/
theorem step_bar (c : Dev nD) (O : CellTallies nD τ sig Unit) (hO : Above 1 O) (Q : PUnit → sProp 𝕄) :
    iprop(ctx m ρ K ∗ ow c O ∗ (cred (tallyAt (cel c none) () 15) ∗ atPos ER (cel c none) 0 ∅ 0)
        ∗ ((ow c O ∗ semVal (cel c none) 0 ∗ bigSep Finset.univ fun d : Fin 15 => iprop(∃ f, rPts (pe c d.rev) d f)) -∗ Q ⟨⟩))
      ⊢ wpc c (semWaitWord barS 15#32) Q := by
  unfold semWaitWord ow
  iintro ⟨#HC, ⟨%W, HO⟩, ⟨Hc, Hat⟩, HQ⟩
  ihave #HI := (ctx_inv m ρ K c none) $$ HC
  iapply (Rounds.wp_wait_rest_token 𝒱₀ ER (rd m ρ) (c : Thread nD τ) none (κ := K (c, none))
      (wpE_semWait_eq 𝒱₀ (c : Thread nD τ) none Set.univ) (Set.mem_univ _) () (O := O) (W := W) (R := 0) (m := 0) (T := ∅)
      (by rw [expect_bar]; decide)) $$ [Hc HO Hat]
  · isplitr; · iexact HI
    isplitl [Hc]; · iexact Hc
    isplitl [HO]; · iexact HO
    isplitr; · iapply (ctx_wait m ρ K c (.reg barS) (n := 1) (le_of_eq (lv_cel c none)) hO); iexact HC
    iexact Hat
  iintro ⟨HO, Hat, -, Hpay⟩
  ihave Hp := (Entails.of_eq (rest_bar m ρ c)) $$ Hpay
  rw [wp_ret]
  imod (close_cel m ρ K c none) $$ [Hat] with Hz
  · isplitr; · iexact HC
    iexact Hat
  imodintro
  iapply HQ
  isplitl [HO]; · iexists _; iexact HO
  isplitl [Hz] <;> iassumption

/-- Any wait on one of the transfers' cells: its payload, and the cell closed. -/
theorem step_wait (c : Dev nD) (k : Kd × Fin 15) (O : CellTallies nD τ sig Unit) (n : ℕ) (hn : lvOf (some (some k)) ≤ n) (hO : Above n O)
    {w : TpuEff nD τ sig (Elt F) Λ₀ .tc PUnit}
    (hw : ∀ R : PUnit → sProp 𝕄, wpE (defs₀ (F := F)) 𝒱₀ (c : Thread nD τ) none Set.univ w R = waitSpec (c : Thread nD τ) Set.univ (osem k) N R)
    (Q : PUnit → sProp 𝕄) :
    iprop(ctx m ρ K ∗ ow c O ∗ (cred (tallyAt (cel c (some k)) () N) ∗ atPos ER (cel c (some k)) 0 ∅ 0)
        ∗ ((ow c O ∗ semVal (cel c (some k)) 0 ∗ pay m ρ c (some k) 0) -∗ Q ⟨⟩))
      ⊢ wpc c (Prog.lift w) Q := by
  unfold ow
  show _ ⊢ wpc c (.op w .ret) Q
  iintro ⟨#HC, ⟨%W, HO⟩, ⟨Hc, Hat⟩, HQ⟩
  ihave #HI := (ctx_inv m ρ K c (some k)) $$ HC
  iapply (Rounds.wp_wait_rest_token 𝒱₀ ER (rd m ρ) (c : Thread nD τ) none (κ := K (c, some k))
      hw (Set.mem_univ _) () (O := O) (W := W) (R := 0) (m := 0) (T := ∅)
      (by rw [Nat.zero_add]; exact (expect_some m ρ c k).symm)) $$ [Hc HO Hat]
  · isplitr; · iexact HI
    isplitl [Hc]; · iexact Hc
    isplitl [HO]; · iexact HO
    isplitr; · iapply (ctx_wait m ρ K c (osem k) (n := n) ((le_of_eq (lv_cel c (some k))).trans hn) hO); iexact HC
    iexact Hat
  iintro ⟨HO, Hat, -, Hpay⟩
  ihave Hp := (Entails.of_eq (rest_some m ρ c k)) $$ Hpay
  rw [wp_ret]
  imod (close_cel m ρ K c (some k)) $$ [Hat] with Hz
  · isplitr; · iexact HC
    iexact Hat
  imodintro
  iapply HQ
  isplitl [HO]; · iexists _; iexact HO
  isplitl [Hz] <;> iassumption

end Cert.Shift

end
-- ==== Proof.Sends.lean ====
/-
The rules of the two phases' transfers.
-/
module

public import proofs.«01_k».proof.Proof.Steps

@[expose] public section

noncomputable section

namespace Cert.Shift

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × CI → ℕ)

theorem amt_slot (s : Fin 15) (q : DmaSem sig) : (slotM s).view.amount (.dma q) = N := rfl
theorem amt_chunk (j : Dev nD) (q : DmaSem sig) : (chM j).view.amount (.dma q) = N := rfl

/-- The first phase's transfer to the device at offset `e`. -/
theorem step_send1 (c : Dev nD) (O : CellTallies nD τ sig Unit) (e : Fin 15) (l : List (Fin 15)) (Q : PUnit → sProp 𝕄) (_ : e ∉ l) :
    iprop(ctx m ρ K ∗ ow c (O + oweX .r1 c (e :: l))
        ∗ ((∃ f, rPts (pe c e) e.rev f) ∗ aPts c fullShare (pe c e) (acc0 m ρ c)
          ∗ dutyTok ER (cel c (some (.s1, e))) 0 0 ∗ dutyTok ER (cel (pe c e) (some (.r1, e.rev))) 0 0)
        ∗ ((ow c (O + oweX .r1 c l) ∗ cred (tallyAt (cel c (some (.s1, e))) () N)) -∗ Q ⟨⟩)) ⊢ wpc c (stepSend1 c e) Q := by
  unfold stepSend1 ow
  iintro ⟨#HC, ⟨%W, HO⟩, ⟨⟨%fd, Hd⟩, Hs, Ht1, Ht2⟩, HQ⟩
  ihave #HI1 := (ctx_inv m ρ K c (some (.s1, e))) $$ HC
  ihave #HI2 := (ctx_inv m ρ K (pe c e) (some (.r1, e.rev))) $$ HC
  ihave #HR1 := (ctx_reached m ρ K c (some (.s1, e))) $$ HC
  ihave #HR2 := (ctx_reached m ρ K (pe c e) (some (.r1, e.rev))) $$ HC
  have key : ∀ (n : Dev nD) (src : Memref sig .tc .vmem S32x512 .bf16) (hn : n = pe c e) (hs : src = chM (pe c e)) (hsrc : src.view.WordExact)
      (hsc hdst hsem) (R : PUnit → sProp 𝕄),
      iprop(cellInv ER (rd m ρ) (K (c, some (.s1, e))) (cel c (some (.s1, e))) ∗ cellInv ER (rd m ρ) (K (pe c e, some (.r1, e.rev))) (cel (pe c e) (some (.r1, e.rev)))
        ∗ aPts c fullShare (pe c e) (acc0 m ρ c) ∗ rPts (pe c e) e.rev fd
        ∗ owes (c : Thread nD τ) (O + oweX .r1 c (e :: l)) W
        ∗ dutyTok ER (cel c (some (.s1, e))) 0 0 ∗ reached ER (cel c (some (.s1, e))) 0
        ∗ dutyTok ER (cel (pe c e) (some (.r1, e.rev))) 0 0 ∗ reached ER (cel (pe c e) (some (.r1, e.rev))) 0)
      ⊢ iprop(((cred (tallyAt (cel c (some (.s1, e))) () N) ∗ owes (c : Thread nD τ) (O + oweX .r1 c l) W) -∗ wpc c (.ret ⟨⟩) R)
          -∗ wpc c (.op (.enqueueDma src (.remote (Dev.tc n : Thread nD τ) (slotM e.rev) (.dma (semAt cc0_scratch2 (lo e))) hsc)
              (.dma (semAt cc0_scratch3 (lo e.rev))) hsrc hdst hsem) .ret) R) := by
    intro n src hn hs hsrc hsc hdst hsem R
    subst hn hs
    unfold aPts rPts
    have hd₁ : (0 : Fin 15) ∈ (rd (F := F) m ρ).duties (cel c (some (.s1, e))) 0 := by rw [duties_cel m ρ c (some (.s1, e))]; exact Finset.mem_singleton_self _
    have hd₂ : (0 : Fin 15) ∈ (rd (F := F) m ρ).duties (cel (pe c e) (some (.r1, e.rev))) 0 := by
      rw [duties_cel m ρ (pe c e) (some (.r1, e.rev))]; exact Finset.mem_singleton_self _
    have hp₁ : (emp : sProp 𝕄) ⊢ (rd (F := F) m ρ).payload (cel c (some (.s1, e))) 0 0 := by
      rw [payload_cel m ρ c (some (.s1, e)), pay_s1]
    have hp₂ : iprop(((slotM e.rev).view.loc (pe c e : Thread nD τ) ↦[(slotM e.rev).view.set]{fullShare}
          (slotM e.rev).view.write (Elt F) fd ((chM (pe c e)).view.read (Elt F) (acc0 m ρ c)) Finset.univ)
        ∗ ((chM (pe c e)).view.loc (c : Thread nD τ) ↦[(chM (pe c e)).view.set]{fullShare} acc0 m ρ c))
        ⊢ (rd (F := F) m ρ).payload (cel (pe c e) (some (.r1, e.rev))) 0 0 := by
      rw [payload_cel m ρ (pe c e) (some (.r1, e.rev)), pay_r1]; unfold rPts aPts landR; rw [pe_pe]
      exact sep_mono_left (Entails.of_eq (pointsTo_congr (write_over (F := F) (slotM e.rev).view fd _ _)))
    exact Rounds.wp_send_landing_pointsTo 𝒱₀ ER (rd m ρ) (c : Thread nD τ) none (κ₁ := K (c, some (.s1, e))) (κ₂ := K (pe c e, some (.r1, e.rev)))
      (r₁ := 0) (r₂ := 0) (d₁ := 0) (d₂ := 0) (fd := fd)
      hd₁ hd₂ () () N (amt_slot e.rev _) (amount_cel m ρ c (some (.s1, e)) 0) (amount_cel m ρ (pe c e) (some (.r1, e.rev)) 0) (O + oweX .r1 c l)
      (add_assoc _ _ _).symm (W := W) hp₁ hp₂
  iapply (key _ _ (fstDev_eq c e) (fstM_eq c e) _ _ _ _ Q) $$ [HO Hd Hs Ht1 Ht2]
  · isplitr; · iexact HI1
    isplitr; · iexact HI2
    isplitl [Hs]; · iexact Hs
    isplitl [Hd]; · iexact Hd
    isplitl [HO]; · iexact HO
    isplitl [Ht1]; · iexact Ht1
    isplitr; · iexact HR1
    isplitl [Ht2]; · iexact Ht2
    iexact HR2
  iintro ⟨Hc, HO⟩
  unfold wpc; rw [wp_ret]; imodintro
  iapply HQ
  isplitl [HO]; · iexists W; iexact HO
  iexact Hc

/-- The second phase's transfer to the device at offset `e`. -/
theorem step_send2 (c : Dev nD) (O : CellTallies nD τ sig Unit) (e : Fin 15) (l : List (Fin 15)) (Q : PUnit → sProp 𝕄) (_ : e ∉ l) :
    iprop(ctx m ρ K ∗ ow c (O + oweX .r2 c (e :: l))
        ∗ ((∃ f, aPts (pe c e) fullShare c f) ∗ aPts c (Transfers.shareTok fullShare 15 e) c (red m ρ c)
          ∗ dutyTok ER (cel c (some (.s2, e))) 0 0 ∗ dutyTok ER (cel (pe c e) (some (.r2, e.rev))) 0 0)
        ∗ ((ow c (O + oweX .r2 c l) ∗ cred (tallyAt (cel c (some (.s2, e))) () N)) -∗ Q ⟨⟩)) ⊢ wpc c (stepSend2 c e) Q := by
  unfold stepSend2 ow
  iintro ⟨#HC, ⟨%W, HO⟩, ⟨⟨%fd, Hd⟩, Hs, Ht1, Ht2⟩, HQ⟩
  ihave #HI1 := (ctx_inv m ρ K c (some (.s2, e))) $$ HC
  ihave #HI2 := (ctx_inv m ρ K (pe c e) (some (.r2, e.rev))) $$ HC
  ihave #HR1 := (ctx_reached m ρ K c (some (.s2, e))) $$ HC
  ihave #HR2 := (ctx_reached m ρ K (pe c e) (some (.r2, e.rev))) $$ HC
  have key : ∀ (n : Dev nD) (src : Memref sig .tc .vmem S32x512 .bf16) (hn : n = pe c e) (hs : src = chM c) (hsrc : src.view.WordExact)
      (hsc hdst hsem) (R : PUnit → sProp 𝕄),
      iprop(cellInv ER (rd m ρ) (K (c, some (.s2, e))) (cel c (some (.s2, e))) ∗ cellInv ER (rd m ρ) (K (pe c e, some (.r2, e.rev))) (cel (pe c e) (some (.r2, e.rev)))
        ∗ aPts c (Transfers.shareTok fullShare 15 e) c (red m ρ c) ∗ aPts (pe c e) fullShare c fd
        ∗ owes (c : Thread nD τ) (O + oweX .r2 c (e :: l)) W
        ∗ dutyTok ER (cel c (some (.s2, e))) 0 0 ∗ reached ER (cel c (some (.s2, e))) 0
        ∗ dutyTok ER (cel (pe c e) (some (.r2, e.rev))) 0 0 ∗ reached ER (cel (pe c e) (some (.r2, e.rev))) 0)
      ⊢ iprop(((cred (tallyAt (cel c (some (.s2, e))) () N) ∗ owes (c : Thread nD τ) (O + oweX .r2 c l) W) -∗ wpc c (.ret ⟨⟩) R)
          -∗ wpc c (.op (.enqueueDma src (.remote (Dev.tc n : Thread nD τ) src (.dma (semAt cc0_scratch2 (hi e))) hsc)
              (.dma (semAt cc0_scratch3 (hi e.rev))) hsrc hdst hsem) .ret) R) := by
    intro n src hn hs hsrc hsc hdst hsem R
    subst hn hs
    unfold aPts
    have hd₁ : (0 : Fin 15) ∈ (rd (F := F) m ρ).duties (cel c (some (.s2, e))) 0 := by rw [duties_cel m ρ c (some (.s2, e))]; exact Finset.mem_singleton_self _
    have hd₂ : (0 : Fin 15) ∈ (rd (F := F) m ρ).duties (cel (pe c e) (some (.r2, e.rev))) 0 := by
      rw [duties_cel m ρ (pe c e) (some (.r2, e.rev))]; exact Finset.mem_singleton_self _
    have hp₁ : ((chM c).view.loc (c : Thread nD τ) ↦[(chM c).view.set]{Transfers.shareTok fullShare 15 e} red m ρ c : sProp 𝕄)
        ⊢ (rd (F := F) m ρ).payload (cel c (some (.s2, e))) 0 0 := by
      rw [payload_cel m ρ c (some (.s2, e)), pay_s2]; unfold aPts; exact BI.Entails.refl _
    have hp₂ : ((chM c).view.loc (pe c e : Thread nD τ) ↦[(chM c).view.set]{fullShare}
          (chM c).view.write (Elt F) fd ((chM c).view.read (Elt F) (red m ρ c)) Finset.univ : sProp 𝕄)
        ⊢ (rd (F := F) m ρ).payload (cel (pe c e) (some (.r2, e.rev))) 0 0 := by
      rw [payload_cel m ρ (pe c e) (some (.r2, e.rev)), pay_r2]; unfold aPts; rw [pe_pe]
      exact Entails.of_eq (pointsTo_congr (write_read (F := F) (chM c).view fd (red m ρ c)))
    exact Rounds.wp_send_pointsTo 𝒱₀ ER (rd m ρ) (c : Thread nD τ) none (κ₁ := K (c, some (.s2, e))) (κ₂ := K (pe c e, some (.r2, e.rev)))
      (r₁ := 0) (r₂ := 0) (d₁ := 0) (d₂ := 0) (fd := fd)
      hd₁ hd₂ () () N (amt_chunk c _) (amount_cel m ρ c (some (.s2, e)) 0) (amount_cel m ρ (pe c e) (some (.r2, e.rev)) 0) (O + oweX .r2 c l)
      (add_assoc _ _ _).symm (W := W) hp₁ hp₂
  iapply (key _ _ (sndDev_eq c e) (ownM_eq c) _ _ _ _ Q) $$ [HO Hd Hs Ht1 Ht2]
  · isplitr; · iexact HI1
    isplitr; · iexact HI2
    isplitl [Hs]; · iexact Hs
    isplitl [Hd]; · iexact Hd
    isplitl [HO]; · iexact HO
    isplitl [Ht1]; · iexact Ht1
    isplitr; · iexact HR1
    isplitl [Ht2]; · iexact Ht2
    iexact HR2
  iintro ⟨Hc, HO⟩
  unfold wpc; rw [wp_ret]; imodintro
  iapply HQ
  isplitl [HO]; · iexists W; iexact HO
  iexact Hc

end Cert.Shift

end
-- ==== Proof.Mem.lean ====
/-
The rules of the body's loads, stores and copies to the result, and how the accumulator and the receive buffer are held
chunk by chunk and slot by slot.
-/
module

public import proofs.«01_k».proof.Proof.Sends

@[expose] public section

noncomputable section

namespace Cert.Shift

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × CI → ℕ)

/-! ## Chunks and slots as sets of elements -/

/-- Chunk `j`'s elements, slot `s`'s elements. -/
@[irreducible] def chS (j : Dev nD) : Finset S512x512.Idx := (chR j).set
@[irreducible] def slS (s : Fin 15) : Finset S15x32x512.Idx := (slotR s).set

theorem chM_set (j : Dev nD) : (chM j).view.set = chS j := by
  unfold chS; exact View.set_slice_whole cc0_scratch0 (chR j)
theorem slotM_set (s : Fin 15) : (slotM s).view.set = slS s := by
  unfold slS
  exact (View.set_reshape (v := (View.whole cc0_scratch1).slice (slotR s)) squeezes_S1x32x512_S32x512.numel_eq).trans (View.set_slice_whole cc0_scratch1 (slotR s))

theorem chR_setOn (j : Dev nD) : aM.view.setOn (chR j).toLoadRect.set = chS j :=
  (View.set_slice aM.view (chR j)).symm.trans (chM_set j)
theorem slotR_setOn (s : Fin 15) : rM.view.setOn (slotR s).toLoadRect.set = slS s := by
  refine (View.set_slice rM.view (slotR s)).symm.trans ?_
  unfold slS; exact View.set_slice_whole cc0_scratch1 (slotR s)

theorem mem_chR (j : Dev nD) (i : S512x512.Idx) : i ∈ chS j ↔ rowDev i = j := by
  unfold chS; rw [Rect.mem_set_unit]
  have h0 : (i 0).val < 512 := (i 0).isLt
  have h1 : (i 1).val < 512 := (i 1).isLt
  constructor
  · intro h
    have := h 0
    refine Fin.ext ?_
    change (i 0).val / 32 = j.val
    change 32 * j.val ≤ (i 0).val ∧ (i 0).val < 32 * j.val + 32 at this
    omega
  · rintro rfl a
    fin_cases a
    · change 32 * ((i 0).val / 32) ≤ (i 0).val ∧ (i 0).val < 32 * ((i 0).val / 32) + 32
      omega
    · change 0 ≤ (i 1).val ∧ (i 1).val < 0 + 512
      omega

theorem chunk_disjoint (j j' : Dev nD) (h : j ≠ j') : Disjoint (chS j) (chS j') := by
  rw [Finset.disjoint_left]
  intro i hi hi'
  exact h (((mem_chR j i).mp hi).symm.trans ((mem_chR j' i).mp hi'))
theorem chunk_cover : Finset.univ.biUnion chS = Finset.univ := by
  ext i
  simp only [Finset.mem_biUnion, Finset.mem_univ, true_and, iff_true]
  exact ⟨rowDev i, (mem_chR _ i).mpr rfl⟩

theorem slot_disjoint (s s' : Fin 15) (h : s ≠ s') : Disjoint (slS s) (slS s') := by
  unfold slS; exact
  Ring.lead_disjoint (s := S15x32x512) (NB := 15) 0 1 (fun b => ![b.val, 0, 0]) S1x32x512.size inb_slot
    (fun b => (Nat.one_mul _).symm) rfl s s' h
theorem slot_cover : Finset.univ.biUnion slS = Finset.univ := by
  unfold slS; exact
  Ring.lead_cover (s := S15x32x512) (NB := 15) 0 1 (fun b => ![b.val, 0, 0]) S1x32x512.size inb_slot
    (fun b => (Nat.one_mul _).symm) (by intro b a ha; fin_cases a <;> first | rfl | exact absurd rfl ha) rfl
    (by intro a ha; fin_cases a <;> first | rfl | exact absurd rfl ha) rfl

/-! ## Whole buffers -/

def aAll (c : Dev nD) (f : Vec F S512x512 .bf16) : sProp 𝕄 := (c : Thread nD τ).loc cc0_scratch0 ↦{fullShare} f
def rAll (c : Dev nD) (f : Vec F S15x32x512 .bf16) : sProp 𝕄 := (c : Thread nD τ).loc cc0_scratch1 ↦{fullShare} f
def oAll (c : Dev nD) (f : Vec F S512x512 .bf16) : sProp 𝕄 := oM.view.loc (c : Thread nD τ) ↦{fullShare} f
def xAll (c : Dev nD) (f : Vec F S1x512x512 .bf16) : sProp 𝕄 := xM.view.loc (c : Thread nD τ) ↦{fullShare} f

omit [FloatOps F] in
/-- The chunks of a device: its own and those at each offset. -/
theorem bigSep_dev (c : Dev nD) (Φ : Dev nD → sProp 𝕄) : bigSep Finset.univ Φ = iprop(Φ c ∗ bigSep Finset.univ fun e : Fin 15 => Φ (pe c e)) := by
  rw [pe_cover c, bigSep_insert (by
    intro h
    obtain ⟨e, -, he⟩ := Finset.mem_map.mp h
    exact pe_ne c e he), bigSep_map]
  rfl

omit [FloatOps F] in
theorem bigSep_rev (Φ : Fin 15 → sProp 𝕄) : bigSep Finset.univ Φ = bigSep Finset.univ fun e : Fin 15 => Φ e.rev :=
  bigSep_univ_equiv Fin.revPerm Φ

omit [FloatOps F] in
theorem aPts_eq (c : Dev nD) (q : PosShare TreeShare) (j : Dev nD) (f : Vec F S512x512 .bf16) :
    aPts c q j f = ((c : Thread nD τ).loc cc0_scratch0 ↦[chS j]{q} f : sProp 𝕄) := by unfold aPts; rw [chM_set]
omit [FloatOps F] in
theorem rPts_eq (c : Dev nD) (s : Fin 15) (f : Vec F S15x32x512 .bf16) :
    rPts c s f = ((c : Thread nD τ).loc cc0_scratch1 ↦[slS s]{fullShare} f : sProp 𝕄) := by unfold rPts; rw [slotM_set]

omit [FloatOps F] in
theorem aAll_split (c : Dev nD) (f : Vec F S512x512 .bf16) :
    aAll c f = iprop(aPts c fullShare c f ∗ bigSep Finset.univ fun e : Fin 15 => aPts c fullShare (pe c e) f) := by
  rw [← bigSep_dev c (fun j => aPts c fullShare j f), bigSep_congr fun j _ => aPts_eq c fullShare j f]
  exact Ring.pointsTo_blocks (ℓ := (c : Thread nD τ).loc cc0_scratch0) chS chunk_disjoint chunk_cover f
omit [FloatOps F] in
theorem aAll_join (c : Dev nD) (f₀ : Vec F S512x512 .bf16) :
    iprop((∃ f, aPts c fullShare c f) ∗ bigSep Finset.univ fun e : Fin 15 => iprop(∃ f, aPts c fullShare (pe c e) f)) ⊢ iprop(∃ f, aAll (F := F) c f) := by
  rw [← bigSep_dev c (fun j => iprop(∃ f, aPts (F := F) c fullShare j f))]
  simp only [aPts_eq]
  exact Ring.pointsTo_blocks_join_exists (ℓ := (c : Thread nD τ).loc cc0_scratch0) chS chunk_disjoint chunk_cover f₀
omit [FloatOps F] in
theorem rAll_split (c : Dev nD) (f : Vec F S15x32x512 .bf16) : rAll c f ⊢ bigSep Finset.univ fun s : Fin 15 => iprop(∃ f, rPts (F := F) c s f) := by
  have h : rAll c f = bigSep Finset.univ fun s : Fin 15 => rPts c s f := by
    rw [bigSep_congr fun s _ => rPts_eq c s f]
    exact Ring.pointsTo_blocks (ℓ := (c : Thread nD τ).loc cc0_scratch1) slS slot_disjoint slot_cover f
  rw [h]
  exact bigSep_mono fun s _ => exists_intro (Φ := fun f => rPts (F := F) c s f) f
omit [FloatOps F] in
theorem rAll_join (c : Dev nD) (f₀ : Vec F S15x32x512 .bf16) :
    (bigSep Finset.univ fun s : Fin 15 => iprop(∃ f, rPts (F := F) c s f)) ⊢ iprop(∃ f, rAll (F := F) c f) := by
  simp only [rPts_eq]
  exact Ring.pointsTo_blocks_join_exists (ℓ := (c : Thread nD τ).loc cc0_scratch1) slS slot_disjoint slot_cover f₀

/-! ## Loads and stores -/

/-- A load, with what it reads kept. -/
theorem step_load (c : Dev nD) {cs : CoreSpace} {s : Shape} {e : EltTy} {M : Memref sig .tc cs s e} {r : LoadRect s} {hl : M.view.LoadsAt r}
    {S : Finset (Idx (M.view.loc (c : Thread nD τ)))} {q : PosShare TreeShare} (f : Buf (Elt F) (M.view.loc (c : Thread nD τ)))
    (hS : M.view.setOn r.set ⊆ S) (Q : (r.shape.Idx → Elt F e) → sProp 𝕄) :
    iprop((M.view.loc (c : Thread nD τ) ↦[S]{q} f) ∗ ((M.view.loc (c : Thread nD τ) ↦[S]{q} f) -∗ Q (M.view.readAt (Elt F) r f)))
      ⊢ wpc c (Prog.lift (.load M r hl)) Q := by
  unfold Prog.lift wpc
  iintro ⟨Ha, HQ⟩
  iapply (wp_load 𝒱₀ (c : Thread nD τ) none Set.univ (m := M) (r := r) (hl := hl) hS) $$ Ha
  iintro Ha
  rw [wp_ret]; imodintro
  iapply HQ; iexact Ha

/-- Reading a chunk of the accumulator, at any share of it. -/
theorem step_loadA (c j : Dev nD) (q : PosShare TreeShare) (f : Vec F S512x512 .bf16) {off : Fin 2 → ℕ} (ho : off = ![32 * j.val, 0])
    {h : ∀ a, off a + S32x512.size a ≤ S512x512.size a}
    {hl : aM.view.LoadsAt (Rect.unit (s := S512x512) off S32x512.size h).toLoadRect} (Q : Vec F S32x512 .bf16 → sProp 𝕄) :
    iprop(aPts c q j f ∗ (aPts c q j f -∗ Q (rdA j f))) ⊢ wpc c (Prog.lift (.load aM (Rect.unit (s := S512x512) off S32x512.size h).toLoadRect hl)) Q := by
  subst ho
  rw [aPts_eq]
  exact step_load c (M := aM) (r := (chR j).toLoadRect) f (subset_of_eq (chR_setOn j)) Q

theorem step_loadOwn (c : Dev nD) (f : Vec F S512x512 .bf16) (Q : Vec F S32x512 .bf16 → sProp 𝕄) :
    iprop(aPts c fullShare c f ∗ (aPts c fullShare c f -∗ Q (rdA c f))) ⊢ wpc c (loadOwn c) Q :=
  step_loadA c c fullShare f (k0_off2_eq c) Q

theorem step_storeOwn (c : Dev nD) (f : Vec F S512x512 .bf16) (v : Vec F S32x512 .bf16) (Q : PUnit → sProp 𝕄) :
    iprop(aPts c fullShare c f ∗ (aPts c fullShare c (wrA c f v) -∗ Q ⟨⟩)) ⊢ wpc c (storeOwn c v) Q := by
  have key : ∀ {off : Fin 2 → ℕ} (ho : off = ![32 * c.val, 0]) {h : ∀ a, off a + S32x512.size a ≤ S512x512.size a}
      {hx : (aM.access (Rect.unit (s := S512x512) off S32x512.size h)).Stores Finset.univ} {hm : _},
      iprop(aPts c fullShare c f ∗ (aPts c fullShare c (wrA c f v) -∗ Q ⟨⟩))
        ⊢ wpc c (.op (.store aM (Rect.unit (s := S512x512) off S32x512.size h) v Finset.univ hx hm) .ret) Q := by
    intro off ho h hx hm
    subst ho
    rw [aPts_eq, aPts_eq]
    iintro ⟨Ha, HQ⟩
    iapply (wp_store 𝒱₀ (c : Thread nD τ) none Set.univ (m := aM) (r := chR c) (Mk := Finset.univ) (S := chS c) (subset_of_eq (chM_set c))) $$ Ha
    iintro Ha
    rw [wp_ret]; imodintro
    iapply HQ; iexact Ha
  exact key (k0_off2_eq c)

theorem step_loadSlot (c : Dev nD) (s : Fin 15) (f : Vec F S15x32x512 .bf16) (Q : Vec F S1x32x512 .bf16 → sProp 𝕄) :
    iprop(rPts c s f ∗ (rPts c s f -∗ Q (rdR s f))) ⊢ wpc c (loadSlot s) Q := by
  rw [rPts_eq]
  exact step_load c (M := rM) (r := (slotR s).toLoadRect) f (subset_of_eq (slotR_setOn s)) Q

/-- The result with chunk `j` overwritten. -/
abbrev wrO (j : Dev nD) (g : Vec F S512x512 .bf16) (v : Vec F S32x512 .bf16) : Vec F S512x512 .bf16 :=
  (oM.access (chR j)).write (Elt F) g v Finset.univ

theorem wrO_in (j : Dev nD) (g f : Vec F S512x512 .bf16) (i : S512x512.Idx) (h : rowDev i = j) : wrO j g (rdA j f) i = f i := by
  obtain ⟨x, -, hx⟩ := Finset.mem_map.mp ((chM_set j).symm ▸ (mem_chR j i).mpr h : i ∈ (chM j).view.set)
  subst hx
  exact View.write_emb_of_mem (v := oM.access (chR j)) (Val := Elt F) g (rdA j f) (Finset.mem_univ x)
theorem wrO_out (j : Dev nD) (g : Vec F S512x512 .bf16) (v : Vec F S32x512 .bf16) (i : S512x512.Idx) (h : rowDev i ≠ j) : wrO j g v i = g i := by
  refine View.write_of_not_mem (v := oM.access (chR j)) (Val := Elt F) g v Finset.univ fun hi => h ((mem_chR j i).mp ?_)
  rw [← chM_set]; exact hi

/-- Copying chunk `j` of the accumulator, at any share, to the result. -/
theorem step_copyOut (c j : Dev nD) (q : PosShare TreeShare) (f g : Vec F S512x512 .bf16) {r : Rect S512x512} (hr : r = chR j) {h₁ h₂ h₃} (Q : PUnit → sProp 𝕄) :
    iprop(aPts c q j f ∗ oAll c g ∗ ((aPts c q j f ∗ oAll c (wrO j g (rdA j f))) -∗ Q ⟨⟩)) ⊢ wpc c (copyOut r h₁ h₂ h₃) Q := by
  subst hr
  unfold copyOut wpc
  rw [wp_bind]
  iintro ⟨Ha, Ho, HQ⟩
  iapply (step_loadA c j q f rfl)
  isplitl [Ha]; · iexact Ha
  iintro Ha
  rw [wp_bind]
  unfold oAll
  iapply (wp_load 𝒱₀ (c : Thread nD τ) none Set.univ (m := oM) (r := (chR j).toLoadRect) (S := Finset.univ) (Finset.subset_univ _)) $$ Ho
  iintro Ho
  rw [wp_ret]; imodintro
  iapply (wp_store 𝒱₀ (c : Thread nD τ) none Set.univ (m := oM) (r := chR j) (Mk := Finset.univ) (S := Finset.univ) (Finset.subset_univ _)) $$ Ho
  iintro Ho
  rw [wp_ret]; imodintro
  iapply HQ
  isplitl [Ha] <;> iassumption

end Cert.Shift

end
-- ==== Proof.Waits.lean ====
/-
The body's waits on its transfers, each as one step over the offsets: the first phase's arrivals, the second phase's
arrivals with the copy of what arrived to the result, and the two phases' sends having been read.
-/
module

public import proofs.«01_k».proof.Proof.Mem

@[expose] public section

noncomputable section

namespace Cert.Shift

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × CI → ℕ)

/-! ## What each step takes and leaves, per offset -/

/-- The first arrival at offset `e`: slot `e.rev`. -/
def inR1 (c : Dev nD) (e : Fin 15) : sProp 𝕄 :=
  iprop(cred (tallyAt (cel c (some (.r1, e.rev))) () N) ∗ atPos ER (cel c (some (.r1, e.rev))) 0 ∅ 0)
def outR1 (c : Dev nD) (e : Fin 15) : sProp 𝕄 :=
  iprop(semVal (cel c (some (.r1, e.rev))) 0 ∗ rPts c e.rev (landR m ρ c e.rev) ∗ aPts (pe c e.rev) fullShare c (acc0 m ρ (pe c e.rev)))
theorem outR1_rev (c : Dev nD) (s : Fin 15) : outR1 m ρ c s.rev
    = iprop(semVal (cel c (some (.r1, s))) 0 ∗ rPts c s (landR m ρ c s) ∗ aPts (pe c s) fullShare c (acc0 m ρ (pe c s))) := by
  unfold outR1; rw [Fin.rev_rev]
def inR2 (c : Dev nD) (e : Fin 15) : sProp 𝕄 :=
  iprop(cred (tallyAt (cel c (some (.r2, e.rev))) () N) ∗ atPos ER (cel c (some (.r2, e.rev))) 0 ∅ 0)
def outR2 (c : Dev nD) (e : Fin 15) : sProp 𝕄 :=
  iprop(semVal (cel c (some (.r2, e.rev))) 0 ∗ aPts c fullShare (pe c e.rev) (red m ρ (pe c e.rev)))
def inS1 (c : Dev nD) (e : Fin 15) : sProp 𝕄 := iprop(cred (tallyAt (cel c (some (.s1, e))) () N) ∗ atPos ER (cel c (some (.s1, e))) 0 ∅ 0)
def inS2 (c : Dev nD) (e : Fin 15) : sProp 𝕄 := iprop(cred (tallyAt (cel c (some (.s2, e))) () N) ∗ atPos ER (cel c (some (.s2, e))) 0 ∅ 0)
def outS1 (c : Dev nD) (e : Fin 15) : sProp 𝕄 := iprop(semVal (cel c (some (.s1, e))) 0 ∗ emp)
def outS2 (c : Dev nD) (e : Fin 15) : sProp 𝕄 :=
  iprop(semVal (cel c (some (.s2, e))) 0 ∗ aPts c (Transfers.shareTok fullShare 15 e) c (red m ρ c))

/-- The result buffer, right at the device's own chunk and at each chunk whose arrival is not in the list. -/
def oDone (c : Dev nD) (l : List (Fin 15)) : sProp 𝕄 :=
  iprop(∃ g, oAll c g ∗ ⌜∀ i, (rowDev i = c ∨ ∃ e, e ∉ l ∧ rowDev i = pe c e.rev) → g i = outA m ρ i⌝)

/-! ## The steps -/

theorem credit_chunk (off : Fin 2 → ℕ) (h : ∀ a, off a + S32x512.size a ≤ S512x512.size a) : (chunkM off h).view.dmaCredit = N := rfl

/-- A wait on a transfer's cell, by the memrefs it names. -/
theorem step_waitT (c : Dev nD) (k : Kd × Fin 15) (O : CellTallies nD τ sig Unit) (n : ℕ) (hn : lvOf (some (some k)) ≤ n) (hO : Above n O)
    {q : DmaSem sig} {src dst : Memref sig .tc .vmem S32x512 .bf16} {hsrc : src.view.WordExact} {hdst : dst.view.WordExact}
    (hq : SemLoc.dma q = osem k) (hd : dst.view.dmaCredit = N) (Q : PUnit → sProp 𝕄) :
    iprop(ctx m ρ K ∗ ow c O ∗ (cred (tallyAt (cel c (some k)) () N) ∗ atPos ER (cel c (some k)) 0 ∅ 0)
        ∗ ((ow c O ∗ semVal (cel c (some k)) 0 ∗ pay m ρ c (some k) 0) -∗ Q ⟨⟩))
      ⊢ wpc c (Prog.lift (.waitDma2 q src dst hsrc hdst)) Q := by
  refine step_wait m ρ K c k O n hn hO (fun R => ?_) Q
  rw [← hq, ← hd]
  exact wpE_waitDma2_eq (src := src) (dst := dst) 𝒱₀ (c : Thread nD τ) none Set.univ R

theorem step_recv1 (c : Dev nD) (O : CellTallies nD τ sig Unit) (hO : Above 2 O) (e : Fin 15) (l : List (Fin 15)) (Q : PUnit → sProp 𝕄) (_ : e ∉ l) :
    iprop(ctx m ρ K ∗ ow c O ∗ inR1 c e ∗ ((ow c O ∗ outR1 m ρ c e) -∗ Q ⟨⟩)) ⊢ wpc c (stepRecv1 e) Q :=
  step_waitT m ρ K c (.r1, e.rev) O 2 (le_refl 2) hO rfl (amt_slot e.rev 0) Q

theorem step_done1 (c : Dev nD) (e : Fin 15) (l : List (Fin 15)) (Q : PUnit → sProp 𝕄) (_ : e ∉ l) :
    iprop(ctx m ρ K ∗ ow c 0 ∗ inS1 c e ∗ ((ow c 0 ∗ outS1 c e) -∗ Q ⟨⟩)) ⊢ wpc c (stepDone1 c e) Q :=
  step_waitT m ρ K c (.s1, e) 0 3 (Nat.zero_le _) (above_zero _) rfl (credit_chunk (k0_off1 c (BitVec.ofNat 32 (1 + e.val))) (k0_off1_inb c e)) Q

theorem step_done2 (c : Dev nD) (e : Fin 15) (l : List (Fin 15)) (Q : PUnit → sProp 𝕄) (_ : e ∉ l) :
    iprop(ctx m ρ K ∗ ow c 0 ∗ inS2 c e ∗ ((ow c 0 ∗ outS2 m ρ c e) -∗ Q ⟨⟩)) ⊢ wpc c (stepDone2 c e) Q :=
  step_waitT m ρ K c (.s2, e) 0 3 (Nat.zero_le _) (above_zero _) rfl (credit_chunk (k0_off3 c) (k0_off3_inb c)) Q

theorem step_own (c : Dev nD) (q : PosShare TreeShare) (Q : PUnit → sProp 𝕄) :
    iprop(aPts c q c (red m ρ c) ∗ (∃ g, oAll c g) ∗ ((aPts c q c (red m ρ c) ∗ oDone m ρ c up) -∗ Q ⟨⟩))
      ⊢ wpc c (copyOut (ownR c) rfl (k0_off2_packedbf16 c) h_S32x512) Q := by
  iintro ⟨Ha, ⟨%g, Ho⟩, HQ⟩
  iapply (step_copyOut c c q (red m ρ c) g (ownR_eq c) Q)
  isplitl [Ha]; · iexact Ha
  isplitl [Ho]; · iexact Ho
  iintro ⟨Ha, Ho⟩
  iapply HQ
  isplitl [Ha]; · iexact Ha
  unfold oDone
  iexists _
  isplitl [Ho]; · iexact Ho
  ipureintro
  rintro i (h | ⟨e, he, -⟩)
  · rw [wrO_in c g (red m ρ c) i h]; unfold outA; rw [h]
  · exact absurd (mem_up e) he

theorem step_recv2 (c : Dev nD) (e : Fin 15) (l : List (Fin 15)) (Q : PUnit → sProp 𝕄) (_ : e ∉ l) :
    iprop(ctx m ρ K ∗ (ow c 0 ∗ oDone m ρ c (e :: l)) ∗ inR2 c e ∗ (((ow c 0 ∗ oDone m ρ c l) ∗ outR2 m ρ c e) -∗ Q ⟨⟩)) ⊢ wpc c (stepRecv2 c e) Q := by
  unfold stepRecv2 wpc oDone
  rw [wp_bind]
  iintro ⟨#HC, ⟨HO, ⟨%g, Ho, %hg⟩⟩, Hi, HQ⟩
  iapply (step_waitT m ρ K c (.r2, e.rev) 0 3 (le_refl 3) (above_zero _) (src := ownM c) (dst := ownM c) rfl (credit_chunk (k0_off3 c) (k0_off3_inb c)))
  isplitr; · iexact HC
  isplitl [HO]; · iexact HO
  isplitl [Hi]; · unfold inR2; iexact Hi
  iintro ⟨HO, Hz, Hp⟩
  ihave Hp := (Entails.of_eq (pay_r2 m ρ c e.rev 0)) $$ Hp
  iapply (step_copyOut c (pe c e.rev) fullShare (red m ρ (pe c e.rev)) g (farR_eq c e) Q)
  isplitl [Hp]; · iexact Hp
  isplitl [Ho]; · iexact Ho
  iintro ⟨Ha, Ho⟩
  iapply HQ
  isplitl [HO Ho]
  · isplitl [HO]; · iexact HO
    iexists _
    isplitl [Ho]; · iexact Ho
    ipureintro
    intro i hi
    by_cases h : rowDev i = pe c e.rev
    · rw [wrO_in _ g (red m ρ (pe c e.rev)) i h]; unfold outA; rw [h]
    · rw [wrO_out _ g _ i h]
      refine hg i (hi.imp_right ?_)
      rintro ⟨e', he', h'⟩
      exact ⟨e', fun hm => (List.mem_cons.mp hm).elim (fun he => h (he ▸ h')) he', h'⟩
  unfold outR2
  isplitl [Hz] <;> iassumption

theorem oDone_nil (c : Dev nD) : oDone m ρ c [] ⊢ oAll c (outA m ρ) := by
  unfold oDone
  iintro ⟨%g, Ho, %hg⟩
  have : g = outA m ρ := funext fun i => hg i (by
    have h : rowDev i ∈ insert c (Finset.univ.map ⟨pe c, pe_inj c⟩) := pe_cover c ▸ Finset.mem_univ _
    rcases Finset.mem_insert.mp h with h | h
    · exact .inl h
    · obtain ⟨e, -, he⟩ := Finset.mem_map.mp h
      exact .inr ⟨e.rev, List.not_mem_nil, by rw [Fin.rev_rev]; exact he.symm⟩)
  rw [← this]; iexact Ho

/-- Loading a slot whose arrival has been waited for. -/
theorem step_loadGot (c : Dev nD) (Φ : Fin 15 → sProp 𝕄) (l : List (Fin 15)) (s : Fin 15) (hs : s.rev ∉ l) (Q : Vec F S1x32x512 .bf16 → sProp 𝕄) :
    iprop(fam Φ (outR1 m ρ c) l ∗ (fam Φ (outR1 m ρ c) l -∗ Q (got m ρ c s))) ⊢ wpc c (loadSlot s) Q := by
  have hpk := fam_peek (Φ := Φ) (Ψ := outR1 m ρ c) hs
  rw [outR1_rev] at hpk
  iintro ⟨Hf, HQ⟩
  ihave Hf' := hpk $$ Hf
  icases Hf' with ⟨⟨Hz, Hr, Ha⟩, Hback⟩
  unfold got
  iapply (step_loadSlot c s (landR m ρ c s) Q)
  isplitl [Hr]; · iexact Hr
  iintro Hr
  iapply HQ
  iapply Hback
  isplitl [Hz]; · iexact Hz
  isplitl [Hr] <;> iassumption

/-- The start of the body: the accumulator is the fetched block. -/
theorem step_store0 (c : Dev nD) (f : Vec F S512x512 .bf16) (v : Vec F S512x512 .bf16) {h₁ h₂} (Q : PUnit → sProp 𝕄) :
    iprop(aAll c f ∗ (aAll c v -∗ Q ⟨⟩)) ⊢ wpc c (Prog.lift (.store aM wholeA v Finset.univ h₁ h₂)) Q := by
  unfold aAll Prog.lift wpc
  iintro ⟨Ha, HQ⟩
  iapply (wp_store 𝒱₀ (c : Thread nD τ) none Set.univ (m := aM) (r := wholeA) (Mk := Finset.univ) (S := Finset.univ) (Finset.subset_univ _)) $$ Ha
  iintro Ha
  rw [wp_ret]; imodintro
  iapply HQ
  iapply (Entails.of_eq (congrArg (fun w => (((c : Thread nD τ).loc cc0_scratch0) ↦{fullShare} w : sProp 𝕄))
    (Memref.write_access_unit_zero_univ (Elt F) cc0_scratch0 (by decide) inb_S512x512_S512x512_0_0 f v)))
  iexact Ha

theorem step_loadX (c : Dev nD) (f : Vec F S1x512x512 .bf16) {h₁} (Q : Vec F S1x512x512 .bf16 → sProp 𝕄) :
    iprop(xAll c f ∗ (xAll c f -∗ Q f))
      ⊢ wpc c (Prog.lift (.load xM (Rect.unit (s := S1x512x512) ![0, 0, 0] S1x512x512.size inb_S1x512x512_S1x512x512_0_0_0).toLoadRect h₁)) Q := by
  refine BIBase.Entails.trans ?_ (step_load c (M := xM) (r := (Rect.unit (s := S1x512x512) ![0, 0, 0] S1x512x512.size inb_S1x512x512_S1x512x512_0_0_0).toLoadRect) (hl := h₁)
    (S := Finset.univ) (q := fullShare) f (Finset.subset_univ _) Q)
  unfold xAll
  iintro ⟨Hx, HQ⟩
  isplitl [Hx]; · iexact Hx
  iintro Hx
  iapply (Entails.of_eq (congrArg Q (Memref.readAt_unit_zero (Elt F) cc0_stg0_0 (by decide) inb_S1x512x512_S1x512x512_0_0_0 f).symm))
  iapply HQ; iexact Hx

/-- A load of the whole accumulator, whatever is read. -/
theorem step_loadDead (c : Dev nD) (f : Vec F S512x512 .bf16) {h₁} (Q : Vec F S512x512 .bf16 → sProp 𝕄) :
    iprop(aAll c f ∗ (∀ v, aAll c f -∗ Q v)) ⊢ wpc c (Prog.lift (.load aM wholeA.toLoadRect h₁)) Q := by
  refine BIBase.Entails.trans ?_ (step_load c (M := aM) (r := wholeA.toLoadRect) (hl := h₁) (S := Finset.univ) (q := fullShare) f (Finset.subset_univ _) Q)
  iintro ⟨Ha, HQ⟩
  isplitl [Ha]; · unfold aAll; iexact Ha
  iintro Ha
  iapply HQ; unfold aAll; iexact Ha

end Cert.Shift

end
-- ==== Proof.Body.lean ====
/-
The body of one device, from what it starts with to what it leaves: the steps over the offsets put together.
-/
module

public import proofs.«01_k».proof.Proof.Waits

@[expose] public section

noncomputable section

namespace Cert.Shift

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × CI → ℕ)

/-! ## What the body starts with and leaves -/

/-- The tokens of the payments a device makes: to each other device's barrier and arrival cells, and to its own sends'. -/
def payToks (c : Dev nD) : sProp 𝕄 :=
  bigSep Finset.univ fun e : Fin 15 => iprop(dutyTok ER (cel (pe c e) none) 0 e
    ∗ dutyTok ER (cel c (some (.s1, e))) 0 0 ∗ dutyTok ER (cel (pe c e) (some (.r1, e.rev))) 0 0
    ∗ dutyTok ER (cel c (some (.s2, e))) 0 0 ∗ dutyTok ER (cel (pe c e) (some (.r2, e.rev))) 0 0)

/-- What the protocol gives a device at the start. -/
def startCells (c : Dev nD) : sProp 𝕄 :=
  iprop((bigSep Finset.univ fun k : CI => atPos ER (cel c k) 0 ∅ 0) ∗ payToks c)
def startCreds (c : Dev nD) : sProp 𝕄 :=
  iprop(cred (tallyAt (cel c none) () 15) ∗ (bigSep Finset.univ fun s : Fin 15 => cred (tallyAt (cel c (some (.r1, s))) () N))
    ∗ (bigSep Finset.univ fun s : Fin 15 => cred (tallyAt (cel c (some (.r2, s))) () N)))
def bodyIn (c : Dev nD) : sProp 𝕄 :=
  iprop(ow c (O₀ c) ∗ xAll c (xstg m ρ c) ∗ (∃ f, aAll c f) ∗ (∃ f, rAll c f) ∗ (∃ g, oAll c g) ∗ startCells c ∗ startCreds c)
def bodyOut (c : Dev nD) : sProp 𝕄 :=
  iprop(ow c 0 ∗ xAll c (xstg m ρ c) ∗ (∃ f, aAll (F := F) c f) ∗ (∃ f, rAll (F := F) c f) ∗ oAll c (outA m ρ)
    ∗ bigSep Finset.univ fun k : CI => semVal (cel c k) 0)

/-! ## Families put together and taken apart -/

omit [FloatOps F] in
theorem bigSep_CI (Φ : CI → sProp 𝕄) : bigSep Finset.univ Φ = iprop(Φ none
    ∗ (bigSep Finset.univ fun e : Fin 15 => Φ (some (.s1, e))) ∗ (bigSep Finset.univ fun e : Fin 15 => Φ (some (.s2, e)))
    ∗ (bigSep Finset.univ fun e : Fin 15 => Φ (some (.r1, e))) ∗ (bigSep Finset.univ fun e : Fin 15 => Φ (some (.r2, e)))) := by
  have h : (Finset.univ : Finset CI) = insert none ((Finset.univ : Finset (Kd × Fin 15)).map Function.Embedding.some) := by
    ext k
    cases k with
    | none => simp
    | some k => simp
  have hk : (Finset.univ : Finset Kd) = {Kd.s1, Kd.s2, Kd.r1, Kd.r2} := by decide
  rw [h, bigSep_insert (by simp), bigSep_map, bigSep_univ_prod, hk, bigSep_insert (by decide), bigSep_insert (by decide), bigSep_insert (by decide),
    bigSep_singleton]
  rfl

def inSig (c : Dev nD) (e : Fin 15) : sProp 𝕄 := iprop(dutyTok ER (cel (pe c e) none) 0 e ∗ ∃ f, rPts c e f)
def inSend1 (c : Dev nD) (e : Fin 15) : sProp 𝕄 :=
  iprop((∃ f, rPts (pe c e) e.rev f) ∗ aPts c fullShare (pe c e) (acc0 m ρ c)
    ∗ dutyTok ER (cel c (some (.s1, e))) 0 0 ∗ dutyTok ER (cel (pe c e) (some (.r1, e.rev))) 0 0)
def inSend2 (c : Dev nD) (e : Fin 15) : sProp 𝕄 :=
  iprop((∃ f, aPts (pe c e) fullShare c f) ∗ aPts c (Transfers.shareTok fullShare 15 e) c (red m ρ c)
    ∗ dutyTok ER (cel c (some (.s2, e))) 0 0 ∗ dutyTok ER (cel (pe c e) (some (.r2, e.rev))) 0 0)

omit [FloatOps F] in
theorem mk_sig (c : Dev nD) (Ψ : Fin 15 → sProp 𝕄) :
    iprop((bigSep Finset.univ fun e : Fin 15 => dutyTok ER (cel (pe c e) none) 0 e) ∗ bigSep Finset.univ fun s : Fin 15 => iprop(∃ f, rPts (F := F) c s f))
      ⊢ fam (inSig c) Ψ up := by
  rw [fam_up, ← bigSep_sep']
  exact Entails.refl _

theorem mk_send1 (c : Dev nD) (Ψ : Fin 15 → sProp 𝕄) :
    iprop((bigSep Finset.univ fun d : Fin 15 => iprop(∃ f, rPts (F := F) (pe c d.rev) d f)) ∗ (bigSep Finset.univ fun e : Fin 15 => aPts c fullShare (pe c e) (acc0 m ρ c))
        ∗ (bigSep Finset.univ fun e : Fin 15 => dutyTok ER (cel c (some (.s1, e))) 0 0)
        ∗ (bigSep Finset.univ fun e : Fin 15 => dutyTok ER (cel (pe c e) (some (.r1, e.rev))) 0 0))
      ⊢ fam (inSend1 m ρ c) Ψ up := by
  rw [fam_up, bigSep_rev (fun d : Fin 15 => iprop(∃ f, rPts (F := F) (pe c d.rev) d f)), ← bigSep_sep', ← bigSep_sep', ← bigSep_sep']
  simp only [Fin.rev_rev]
  exact Entails.refl _

theorem mk_send2 (c : Dev nD) (Ψ : Fin 15 → sProp 𝕄) :
    iprop((bigSep Finset.univ fun e : Fin 15 => iprop(∃ f, aPts (F := F) (pe c e) fullShare c f))
        ∗ (bigSep Finset.univ fun e : Fin 15 => aPts c (Transfers.shareTok fullShare 15 e) c (red m ρ c))
        ∗ (bigSep Finset.univ fun e : Fin 15 => dutyTok ER (cel c (some (.s2, e))) 0 0)
        ∗ (bigSep Finset.univ fun e : Fin 15 => dutyTok ER (cel (pe c e) (some (.r2, e.rev))) 0 0))
      ⊢ fam (inSend2 m ρ c) Ψ up := by
  rw [fam_up, ← bigSep_sep', ← bigSep_sep', ← bigSep_sep']
  exact Entails.refl _

omit [FloatOps F] in
theorem mk_rev (A B : Fin 15 → sProp 𝕄) (Ψ : Fin 15 → sProp 𝕄) :
    iprop(bigSep Finset.univ A ∗ bigSep Finset.univ B) ⊢ fam (fun e => iprop(A e.rev ∗ B e.rev)) Ψ up := by
  rw [fam_up, ← bigSep_sep', bigSep_rev]
omit [FloatOps F] in
theorem mk_fwd (A B : Fin 15 → sProp 𝕄) (Ψ : Fin 15 → sProp 𝕄) :
    iprop(bigSep Finset.univ A ∗ bigSep Finset.univ B) ⊢ fam (fun e => iprop(A e ∗ B e)) Ψ up := by
  rw [fam_up, ← bigSep_sep']

/-- What the first phase's arrivals leave: the cells closed, the slots, and the chunks of the other devices. -/
theorem end_recv1 (c : Dev nD) (Φ : Fin 15 → sProp 𝕄) :
    fam Φ (outR1 m ρ c) [] ⊢ iprop((bigSep Finset.univ fun s : Fin 15 => semVal (cel c (some (.r1, s))) 0)
      ∗ (bigSep Finset.univ fun s : Fin 15 => iprop(∃ f, rPts (F := F) c s f)) ∗ bigSep Finset.univ fun e : Fin 15 => iprop(∃ f, aPts (F := F) (pe c e) fullShare c f)) := by
  rw [fam_nil, ← bigSep_sep', ← bigSep_sep', bigSep_rev fun s : Fin 15 => iprop(semVal (cel c (some (.r1, s))) 0 ∗ (∃ f, rPts (F := F) c s f) ∗ ∃ f, aPts (F := F) (pe c s) fullShare c f)]
  refine bigSep_mono fun e _ => ?_
  show (_ : sProp 𝕄) ⊢ _
  unfold outR1
  iintro ⟨Hz, Hr, Ha⟩
  isplitl [Hz]; · iexact Hz
  isplitl [Hr]
  · iexists _; iexact Hr
  iexists _; iexact Ha

theorem end_recv2 (c : Dev nD) (Φ : Fin 15 → sProp 𝕄) :
    fam Φ (outR2 m ρ c) [] ⊢ iprop((bigSep Finset.univ fun s : Fin 15 => semVal (cel c (some (.r2, s))) 0)
      ∗ bigSep Finset.univ fun e : Fin 15 => iprop(∃ f, aPts (F := F) c fullShare (pe c e) f)) := by
  rw [fam_nil, ← bigSep_sep', bigSep_rev fun s : Fin 15 => iprop(semVal (cel c (some (.r2, s))) 0 ∗ ∃ f, aPts (F := F) c fullShare (pe c s) f)]
  refine bigSep_mono fun e _ => ?_
  show (_ : sProp 𝕄) ⊢ _
  unfold outR2
  iintro ⟨Hz, Ha⟩
  isplitl [Hz]; · iexact Hz
  iexists _; iexact Ha

omit [FloatOps F] in
theorem end_done1 (c : Dev nD) (Φ : Fin 15 → sProp 𝕄) :
    fam Φ (outS1 c) [] ⊢ bigSep Finset.univ fun s : Fin 15 => semVal (cel c (some (.s1, s))) 0 := by
  rw [fam_nil]
  refine bigSep_mono fun e _ => ?_
  show (_ : sProp 𝕄) ⊢ _
  unfold outS1
  iintro ⟨Hz, -⟩
  iexact Hz

theorem end_done2 (c : Dev nD) (Φ : Fin 15 → sProp 𝕄) :
    fam Φ (outS2 m ρ c) [] ⊢ iprop((bigSep Finset.univ fun s : Fin 15 => semVal (cel c (some (.s2, s))) 0)
      ∗ bigSep Finset.univ fun e : Fin 15 => aPts c (Transfers.shareTok fullShare 15 e) c (red m ρ c)) := by
  rw [fam_nil, ← bigSep_sep']
  exact Entails.refl _

omit [FloatOps F] in
theorem payToks_split (c : Dev nD) : payToks (F := F) c ⊢ iprop((bigSep Finset.univ fun e : Fin 15 => dutyTok ER (cel (pe c e) none) 0 e)
    ∗ (bigSep Finset.univ fun e : Fin 15 => dutyTok ER (cel c (some (.s1, e))) 0 0)
    ∗ (bigSep Finset.univ fun e : Fin 15 => dutyTok ER (cel (pe c e) (some (.r1, e.rev))) 0 0)
    ∗ (bigSep Finset.univ fun e : Fin 15 => dutyTok ER (cel c (some (.s2, e))) 0 0)
    ∗ (bigSep Finset.univ fun e : Fin 15 => dutyTok ER (cel (pe c e) (some (.r2, e.rev))) 0 0)) := by
  unfold payToks
  rw [bigSep_sep', bigSep_sep', bigSep_sep', bigSep_sep']

omit [FloatOps F] in
theorem aPts_toks (c : Dev nD) (f : Vec F S512x512 .bf16) : aPts c fullShare c f
    ⊢ iprop(aPts c (Transfers.shareDrop fullShare 15) c f ∗ bigSep Finset.univ fun e : Fin 15 => aPts c (Transfers.shareTok fullShare 15 e) c f) := by
  unfold aPts; exact Transfers.pointsTo_toks_split fullShare 15
omit [FloatOps F] in
theorem aPts_untoks (c : Dev nD) (f : Vec F S512x512 .bf16) :
    iprop(aPts c (Transfers.shareDrop fullShare 15) c f ∗ bigSep Finset.univ fun e : Fin 15 => aPts c (Transfers.shareTok fullShare 15 e) c f)
      ⊢ aPts c fullShare c f := by
  unfold aPts; exact Transfers.pointsTo_toks_join fullShare 15

end Cert.Shift

end
-- ==== Proof.BodyRun.lean ====
/-
The body run: what a device starts with is taken to what it leaves, step by step.
-/
module

public import proofs.«01_k».proof.Proof.Body

@[expose] public section

noncomputable section

namespace Cert.Shift

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × CI → ℕ)

set_option maxHeartbeats 4000000 in
theorem body_run (c : Dev nD) (Q : PUnit → sProp 𝕄) :
    iprop(ctx m ρ K ∗ bodyIn m ρ c ∗ (bodyOut m ρ c -∗ Q ⟨⟩)) ⊢ wpc c (bodyP c) Q := by
  unfold bodyIn startCells startCreds wpc bodyP
  rw [bigSep_CI]
  iintro ⟨#HC, ⟨HO, Hx, ⟨%fa, HA⟩, ⟨%fr, HR⟩, Hout, ⟨⟨HatB, HatS1, HatS2, HatR1, HatR2⟩, HT⟩, HcB, Hc1, Hc2⟩, HQ⟩
  ihave HT' := (payToks_split c) $$ HT
  icases HT' with ⟨HtB, HtS1, HtR1, HtS2, HtR2⟩
  ihave HR := (rAll_split c fr) $$ HR
  rw [wp_bind]
  iapply (step_loadX c (xstg m ρ c))
  isplitl [Hx]; · iexact Hx
  iintro Hx
  rw [wp_bind]
  iapply (step_loadDead c fa)
  isplitl [HA]; · iexact HA
  iintro %v HA
  rw [wp_bind]
  iapply (step_store0 c fa (k0_pay1 (xstg m ρ c)))
  isplitl [HA]; · iexact HA
  iintro HA
  ihave HA := (show aAll c (k0_pay1 (xstg m ρ c)) ⊢ _ from Entails.of_eq (aAll_split c (acc0 m ρ c))) $$ HA
  icases HA with ⟨HA, HAs⟩
  rw [wp_bind]
  iapply (wp_each (G := fun l => ow c (oweX .r2 c up + oweX .r1 c up + oweBar c l)) (Φ := inSig c) (Ψ := fun _ => iprop(emp))
    (step_sig m ρ K c (oweX .r2 c up + oweX .r1 c up)) [] up _ (by decide))
  isplitr; · iexact HC
  isplitl [HO]; · iexact HO
  isplitl [HtB HR]
  · iapply (mk_sig c (fun _ => iprop(emp)))
    isplitl [HtB] <;> iassumption
  iintro ⟨HO, -⟩
  rw [wp_bind]
  iapply (step_bar m ρ K c (oweX .r2 c up + oweX .r1 c up + oweBar c []) (above_add (above_add (above_oweX (by decide) c up) (above_oweX (by decide) c up)) (above_zero 1)))
  isplitr; · iexact HC
  isplitl [HO]; · iexact HO
  isplitl [HcB HatB]; · isplitl [HcB] <;> iassumption
  iintro ⟨HO, HzB, HR⟩
  ihave HO := (Entails.of_eq (congrArg (ow c) (show oweX .r2 c up + oweX .r1 c up + oweBar c [] = oweX .r2 c up + oweX .r1 c up from add_zero _))) $$ HO
  rw [wp_bind]
  iapply (wp_each (G := fun l => ow c (oweX .r2 c up + oweX .r1 c l)) (Φ := inSend1 m ρ c) (Ψ := fun e => cred (tallyAt (cel c (some (.s1, e))) () N))
    (step_send1 m ρ K c (oweX .r2 c up)) [] up _ (by decide))
  isplitr; · iexact HC
  isplitl [HO]; · iexact HO
  isplitl [HR HAs HtS1 HtR1]
  · iapply (mk_send1 m ρ c _)
    isplitl [HR]; · iexact HR
    isplitl [HAs]; · iexact HAs
    isplitl [HtS1] <;> iassumption
  iintro ⟨HO, HcS1⟩
  ihave HO := (Entails.of_eq (congrArg (ow c) (show oweX .r2 c up + oweX .r1 c [] = oweX .r2 c up from add_zero _))) $$ HO
  ihave HF := (show iprop((bigSep Finset.univ fun s : Fin 15 => cred (tallyAt (cel c (some (.r1, s))) () N))
      ∗ bigSep Finset.univ fun s : Fin 15 => atPos ER (cel c (some (.r1, s))) 0 ∅ 0) ⊢ fam (inR1 c) (outR1 m ρ c) up from mk_rev _ _ _) $$ [Hc1 HatR1]
  · isplitl [Hc1] <;> iassumption
  rw [wp_bind]
  iapply (wp_each (G := fun _ => ow c (oweX .r2 c up)) (Φ := inR1 c) (Ψ := outR1 m ρ c) (step_recv1 m ρ K c (oweX .r2 c up) (above_oweX (by decide) c up)) [5, 6, 7, 8, 9, 10, 11, 12, 13, 14] [0, 1, 2, 3, 4] _ (by decide))
  isplitr; · iexact HC
  isplitl [HO]; · iexact HO
  isplitl [HF]; · iexact HF
  iintro ⟨HO, HF⟩
  rw [wp_bind]
  iapply (step_loadOwn c (acc0 m ρ c))
  isplitl [HA]; · iexact HA
  iintro HA
  rw [wp_bind]
  iapply (step_loadGot m ρ c (inR1 c) [5, 6, 7, 8, 9, 10, 11, 12, 13, 14] 14 (by decide))
  isplitl [HF]; · iexact HF
  iintro HF
  rw [wp_bind]
  iapply (step_loadGot m ρ c (inR1 c) [5, 6, 7, 8, 9, 10, 11, 12, 13, 14] 13 (by decide))
  isplitl [HF]; · iexact HF
  iintro HF
  rw [wp_bind]
  iapply (step_loadGot m ρ c (inR1 c) [5, 6, 7, 8, 9, 10, 11, 12, 13, 14] 12 (by decide))
  isplitl [HF]; · iexact HF
  iintro HF
  rw [wp_bind]
  iapply (step_loadGot m ρ c (inR1 c) [5, 6, 7, 8, 9, 10, 11, 12, 13, 14] 11 (by decide))
  isplitl [HF]; · iexact HF
  iintro HF
  rw [wp_bind]
  iapply (step_loadGot m ρ c (inR1 c) [5, 6, 7, 8, 9, 10, 11, 12, 13, 14] 10 (by decide))
  isplitl [HF]; · iexact HF
  iintro HF
  rw [wp_bind]
  iapply (step_loadOwn c (acc0 m ρ c))
  isplitl [HA]; · iexact HA
  iintro HA
  rw [wp_bind]
  iapply (step_storeOwn c (acc0 m ρ c))
  isplitl [HA]; · iexact HA
  iintro HA
  ihave HA := (show aPts c fullShare c (wrA c (acc0 m ρ c) _) ⊢ aPts c fullShare c (acc1 m ρ c) from Entails.refl _) $$ HA
  rw [wp_bind]
  iapply (wp_each (G := fun _ => ow c (oweX .r2 c up)) (Φ := inR1 c) (Ψ := outR1 m ρ c) (step_recv1 m ρ K c (oweX .r2 c up) (above_oweX (by decide) c up)) [10, 11, 12, 13, 14] [5, 6, 7, 8, 9] _ (by decide))
  isplitr; · iexact HC
  isplitl [HO]; · iexact HO
  isplitl [HF]; · iexact HF
  iintro ⟨HO, HF⟩
  rw [wp_bind]
  iapply (step_loadOwn c (acc1 m ρ c))
  isplitl [HA]; · iexact HA
  iintro HA
  rw [wp_bind]
  iapply (step_loadGot m ρ c (inR1 c) [10, 11, 12, 13, 14] 9 (by decide))
  isplitl [HF]; · iexact HF
  iintro HF
  rw [wp_bind]
  iapply (step_loadGot m ρ c (inR1 c) [10, 11, 12, 13, 14] 8 (by decide))
  isplitl [HF]; · iexact HF
  iintro HF
  rw [wp_bind]
  iapply (step_loadGot m ρ c (inR1 c) [10, 11, 12, 13, 14] 7 (by decide))
  isplitl [HF]; · iexact HF
  iintro HF
  rw [wp_bind]
  iapply (step_loadGot m ρ c (inR1 c) [10, 11, 12, 13, 14] 6 (by decide))
  isplitl [HF]; · iexact HF
  iintro HF
  rw [wp_bind]
  iapply (step_loadGot m ρ c (inR1 c) [10, 11, 12, 13, 14] 5 (by decide))
  isplitl [HF]; · iexact HF
  iintro HF
  rw [wp_bind]
  iapply (step_loadOwn c (acc1 m ρ c))
  isplitl [HA]; · iexact HA
  iintro HA
  rw [wp_bind]
  iapply (step_storeOwn c (acc1 m ρ c))
  isplitl [HA]; · iexact HA
  iintro HA
  ihave HA := (show aPts c fullShare c (wrA c (acc1 m ρ c) _) ⊢ aPts c fullShare c (acc2 m ρ c) from Entails.refl _) $$ HA
  rw [wp_bind]
  iapply (wp_each (G := fun _ => ow c (oweX .r2 c up)) (Φ := inR1 c) (Ψ := outR1 m ρ c) (step_recv1 m ρ K c (oweX .r2 c up) (above_oweX (by decide) c up)) [] [10, 11, 12, 13, 14] _ (by decide))
  isplitr; · iexact HC
  isplitl [HO]; · iexact HO
  isplitl [HF]; · iexact HF
  iintro ⟨HO, HF⟩
  rw [wp_bind]
  iapply (step_loadOwn c (acc2 m ρ c))
  isplitl [HA]; · iexact HA
  iintro HA
  rw [wp_bind]
  iapply (step_loadGot m ρ c (inR1 c) [] 4 (by decide))
  isplitl [HF]; · iexact HF
  iintro HF
  rw [wp_bind]
  iapply (step_loadGot m ρ c (inR1 c) [] 3 (by decide))
  isplitl [HF]; · iexact HF
  iintro HF
  rw [wp_bind]
  iapply (step_loadGot m ρ c (inR1 c) [] 2 (by decide))
  isplitl [HF]; · iexact HF
  iintro HF
  rw [wp_bind]
  iapply (step_loadGot m ρ c (inR1 c) [] 1 (by decide))
  isplitl [HF]; · iexact HF
  iintro HF
  rw [wp_bind]
  iapply (step_loadGot m ρ c (inR1 c) [] 0 (by decide))
  isplitl [HF]; · iexact HF
  iintro HF
  rw [wp_bind]
  iapply (step_loadOwn c (acc2 m ρ c))
  isplitl [HA]; · iexact HA
  iintro HA
  rw [wp_bind]
  iapply (step_storeOwn c (acc2 m ρ c))
  isplitl [HA]; · iexact HA
  iintro HA
  ihave HA := (show aPts c fullShare c (wrA c (acc2 m ρ c) _) ⊢ aPts c fullShare c (red m ρ c) from Entails.refl _) $$ HA
  ihave HF := (end_recv1 m ρ c (inR1 c)) $$ HF
  icases HF with ⟨HzR1, HR, HAs⟩
  ihave HA := (aPts_toks c (red m ρ c)) $$ HA
  icases HA with ⟨HA, HAt⟩
  rw [wp_bind]
  iapply (wp_each (G := fun l => ow c (0 + oweX .r2 c l)) (Φ := inSend2 m ρ c) (Ψ := fun e => cred (tallyAt (cel c (some (.s2, e))) () N))
    (step_send2 m ρ K c 0) [] up _ (by decide))
  isplitr; · iexact HC
  isplitl [HO]
  · iapply (Entails.of_eq (congrArg (ow c) (show oweX .r2 c up = 0 + oweX .r2 c up from (zero_add _).symm))); iexact HO
  isplitl [HAs HAt HtS2 HtR2]
  · iapply (mk_send2 m ρ c _)
    isplitl [HAs]; · iexact HAs
    isplitl [HAt]; · iexact HAt
    isplitl [HtS2] <;> iassumption
  iintro ⟨HO, HcS2⟩
  ihave HO := (Entails.of_eq (congrArg (ow c) (show 0 + oweX .r2 c [] = 0 from add_zero _))) $$ HO
  rw [wp_bind]
  iapply (step_own m ρ c (Transfers.shareDrop fullShare 15))
  isplitl [HA]; · iexact HA
  isplitl [Hout]; · iexact Hout
  iintro ⟨HA, Hout⟩
  rw [wp_bind]
  iapply (wp_each (G := fun l => iprop(ow c 0 ∗ oDone m ρ c l)) (Φ := inR2 c) (Ψ := outR2 m ρ c) (step_recv2 m ρ K c) [] up _ (by decide))
  isplitr; · iexact HC
  isplitl [HO Hout]
  · isplitl [HO]; · iexact HO
    iexact Hout
  isplitl [Hc2 HatR2]
  · iapply (show iprop((bigSep Finset.univ fun s : Fin 15 => cred (tallyAt (cel c (some (.r2, s))) () N))
      ∗ bigSep Finset.univ fun s : Fin 15 => atPos ER (cel c (some (.r2, s))) 0 ∅ 0) ⊢ fam (inR2 c) (outR2 m ρ c) up from mk_rev _ _ _)
    isplitl [Hc2] <;> iassumption
  iintro ⟨⟨HO, Hout⟩, HF⟩
  ihave HF := (end_recv2 m ρ c (inR2 c)) $$ HF
  icases HF with ⟨HzR2, HAs⟩
  ihave Hout := (oDone_nil m ρ c) $$ Hout
  rw [wp_bind]
  iapply (wp_each (G := fun _ => ow c 0) (Φ := inS1 c) (Ψ := outS1 c) (step_done1 m ρ K c) [] up _ (by decide))
  isplitr; · iexact HC
  isplitl [HO]; · iexact HO
  isplitl [HcS1 HatS1]
  · ihave HcS1 := (Entails.of_eq (fam_nil _ _)) $$ HcS1
    iapply (show iprop((bigSep Finset.univ fun e : Fin 15 => cred (tallyAt (cel c (some (.s1, e))) () N))
      ∗ bigSep Finset.univ fun e : Fin 15 => atPos ER (cel c (some (.s1, e))) 0 ∅ 0) ⊢ fam (inS1 c) (outS1 c) up from mk_fwd _ _ _)
    isplitl [HcS1] <;> iassumption
  iintro ⟨HO, HF⟩
  ihave HzS1 := (end_done1 c (inS1 c)) $$ HF
  iapply (wp_each (G := fun _ => ow c 0) (Φ := inS2 c) (Ψ := outS2 m ρ c) (step_done2 m ρ K c) [] up _ (by decide))
  isplitr; · iexact HC
  isplitl [HO]; · iexact HO
  isplitl [HcS2 HatS2]
  · ihave HcS2 := (Entails.of_eq (fam_nil _ _)) $$ HcS2
    iapply (show iprop((bigSep Finset.univ fun e : Fin 15 => cred (tallyAt (cel c (some (.s2, e))) () N))
      ∗ bigSep Finset.univ fun e : Fin 15 => atPos ER (cel c (some (.s2, e))) 0 ∅ 0) ⊢ fam (inS2 c) (outS2 m ρ c) up from mk_fwd _ _ _)
    isplitl [HcS2] <;> iassumption
  iintro ⟨HO, HF⟩
  ihave HF := (end_done2 m ρ c (inS2 c)) $$ HF
  icases HF with ⟨HzS2, HAt⟩
  iapply HQ
  unfold bodyOut
  rw [bigSep_CI]
  isplitl [HO]; · iexact HO
  isplitl [Hx]; · iexact Hx
  isplitl [HA HAt HAs]
  · iapply (aAll_join c fa)
    isplitl [HA HAt]
    · iexists (red m ρ c)
      iapply (aPts_untoks c (red m ρ c))
      isplitl [HA] <;> iassumption
    iexact HAs
  isplitl [HR]
  · iapply (rAll_join c fr); iexact HR
  isplitl [Hout]; · iexact Hout
  isplitl [HzB]; · iexact HzB
  isplitl [HzS1]; · iexact HzS1
  isplitl [HzS2]; · iexact HzS2
  isplitl [HzR1] <;> iassumption

end Cert.Shift

end
-- ==== Proof.Deal.lean ====
/-
What the launch deals to the devices: every cell's invariant under one map of names, each device's positions, and the
tokens of the payments it makes, carried to it from the cells' owners; and the credits its waits use.
-/
module

public import proofs.«01_k».proof.Proof.Body

@[expose] public section

noncomputable section

namespace Cert.Shift

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## Cells and tokens -/

theorem cell_inj : Function.Injective (fun ck : Dev nD × CI => cel ck.1 ck.2) := fun a b h => by
  obtain ⟨h1, h2⟩ := cel_inj h; exact Prod.ext h1 h2
def allCells : Finset (GSem nD τ sig) := Finset.univ.map ⟨fun ck : Dev nD × CI => cel ck.1 ck.2, cell_inj⟩

/-- The tokens of a device's own cells: fifteen at its barrier, one at each other. -/
abbrev tokOf : Dev nD × Option Kd × Fin 15 → GSem nD τ sig × ℕ × Fin 15
  | (c, none, e) => (cel c none, 0, e)
  | (c, some k, e) => (cel c (some (k, e)), 0, 0)
theorem tokOf_inj : Function.Injective tokOf := by
  rintro ⟨c, k, e⟩ ⟨c', k', e'⟩ h
  have h1 := congrArg Prod.fst h
  have h2 := congrArg (fun x => x.2.2) h
  cases k <;> cases k'
  · obtain ⟨rfl, -⟩ := cel_inj h1
    have h3 : e = e' := h2
    rw [h3]
  · exact absurd (cel_inj h1).2 (by simp)
  · exact absurd (cel_inj h1).2 (by simp)
  · obtain ⟨rfl, h4⟩ := cel_inj h1
    obtain ⟨rfl, rfl⟩ := Prod.mk.inj (Option.some.inj h4)
    rfl
def allToks : Finset (GSem nD τ sig × ℕ × Fin 15) := Finset.univ.map ⟨tokOf, tokOf_inj⟩

def ownToks (c : Dev nD) : sProp 𝕄 :=
  iprop((bigSep Finset.univ fun e : Fin 15 => dutyTok ER (cel c none) 0 e)
    ∗ (bigSep Finset.univ fun e : Fin 15 => dutyTok ER (cel c (some (.s1, e))) 0 0)
    ∗ (bigSep Finset.univ fun e : Fin 15 => dutyTok ER (cel c (some (.r1, e))) 0 0)
    ∗ (bigSep Finset.univ fun e : Fin 15 => dutyTok ER (cel c (some (.s2, e))) 0 0)
    ∗ (bigSep Finset.univ fun e : Fin 15 => dutyTok ER (cel c (some (.r2, e))) 0 0))

omit [FloatOps F] in
theorem toks_eq : bigSep allToks (fun x => (dutyTok ER x.1 x.2.1 x.2.2 : sProp 𝕄)) = bigSep Finset.univ fun c : Dev nD => ownToks c := by
  unfold allToks
  rw [bigSep_map, bigSep_univ_prod]
  refine bigSep_congr fun c _ => ?_
  rw [bigSep_univ_prod, bigSep_univ_eq_bigSepL [none, some Kd.s1, some Kd.r1, some Kd.s2, some Kd.r2] (by decide) (by decide)]
  rfl

/-- Stepping `e + 1` places on, as a permutation of the devices. -/
def peE (e : Fin 15) : Dev nD ≃ Dev nD := ⟨fun c => pe c e, fun c => pe c e.rev, fun c => pe_pe c e, fun c => pe_pe' c e⟩

omit [FloatOps F] in
theorem carry (Φ : Dev nD → Fin 15 → sProp 𝕄) :
    (bigSep Finset.univ fun c : Dev nD => bigSep Finset.univ fun e : Fin 15 => Φ c e)
      = bigSep Finset.univ fun c : Dev nD => bigSep Finset.univ fun e : Fin 15 => Φ (pe c e) e := by
  rw [BI.bigSep_univ_comm, BI.bigSep_univ_comm fun (c : Dev nD) (e : Fin 15) => Φ (pe c e) e]
  exact bigSep_congr fun e _ => bigSep_univ_equiv (peE e) fun c => Φ c e

omit [FloatOps F] in
theorem carry_rev (Φ : Dev nD → Fin 15 → sProp 𝕄) :
    (bigSep Finset.univ fun c : Dev nD => bigSep Finset.univ fun e : Fin 15 => Φ c e)
      = bigSep Finset.univ fun c : Dev nD => bigSep Finset.univ fun e : Fin 15 => Φ (pe c e) e.rev := by
  rw [← carry fun c e => Φ c e.rev]
  exact bigSep_congr fun c _ => bigSep_rev (Φ c)

omit [FloatOps F] in
/-- The tokens carried from the cells' owners to the devices that pay with them. -/
theorem toks_around : (bigSep Finset.univ fun c : Dev nD => (ownToks c : sProp 𝕄)) ⊢ bigSep Finset.univ fun c : Dev nD => payToks c := by
  unfold ownToks payToks
  simp only [bigSep_sep']
  rw [carry fun c e => (dutyTok ER (cel c none) 0 e : sProp 𝕄), carry_rev fun c e => (dutyTok ER (cel c (some (.r1, e))) 0 0 : sProp 𝕄),
    carry_rev fun c e => (dutyTok ER (cel c (some (.r2, e))) 0 0 : sProp 𝕄)]

/-! ## The launch element -/

def u₀ : UU :=
  (initOf (Pipeline.cells cfgs cellOf_inj) (Pipeline.launchToks cfgs cellOf_inj), initOf allCells allToks)

/-- What the launch element gives device `c`. -/
def G (c : Dev nD) : sProp 𝕄 :=
  iprop((bigSep Finset.univ fun k : CI => roundState ER (rd m ρ) (cel c k) 0) ∗ (bigSep Finset.univ fun k : CI => reached ER (cel c k) 0)
    ∗ (bigSep Finset.univ fun k : CI => atPos ER (cel c k) 0 ∅ 0) ∗ ownToks c)

def records (K : Dev nD × CI → ℕ) : sProp 𝕄 :=
  iprop((bigSep Finset.univ fun ck : Dev nD × CI => cellInv ER (rd m ρ) (K ck) (cel ck.1 ck.2))
    ∗ bigSep Finset.univ fun ck : Dev nD × CI => reached ER (cel ck.1 ck.2) 0)
instance records_persistent (K : Dev nD × CI → ℕ) : BI.Persistent (records m ρ K) := by unfold records; infer_instance

/-- What the cells' allocation makes of it. -/
def G' (c : Dev nD) : sProp 𝕄 := iprop((∃ K, records m ρ K) ∗ startCells c)

theorem fund_all : BI.own (ER (initOf allCells allToks)) ⊢ (|==> bigSep Finset.univ (G m ρ) : sProp 𝕄) := by
  have hX (Φ : GSem nD τ sig → sProp 𝕄) : bigSep allCells Φ = bigSep Finset.univ fun c : Dev nD => bigSep Finset.univ fun k : CI => Φ (cel c k) := by
    unfold allCells; rw [bigSep_map, bigSep_univ_prod]; rfl
  refine (Rounds.fund ER (rd m ρ) allCells allToks).trans (BI.bupd_mono ?_)
  rw [hX, hX, hX, toks_eq]
  unfold G
  simp only [bigSep_sep']
  exact Entails.refl _

omit [FloatOps F] in
theorem bigSep_opt (Φ : CI → sProp 𝕄) : bigSep Finset.univ Φ = iprop(Φ none ∗ bigSep Finset.univ fun k : Kd × Fin 15 => Φ (some k)) := by
  have h : (Finset.univ : Finset CI) = insert none ((Finset.univ : Finset (Kd × Fin 15)).map Function.Embedding.some) := by
    ext k
    cases k with
    | none => simp
    | some k => simp
  rw [h, bigSep_insert (by simp), bigSep_map]
  rfl

omit [FloatOps F] in
/-- The transfers' semaphores are the kernel's own, the barrier the one that outlives it. -/
theorem sems0_eq (c : Dev nD) :
    (bigSep Finset.univ fun k : CI => semVal (cel c k) 0 : sProp 𝕄)
      = iprop(unscopedSems0 c ∗ Pipeline.ownSems0 (Ix := Unit) (Name := ℕ) (U := UU) (Lvl := ℕ) (Val := Elt F) (τ := τ) osem c) := by
  have hu : (unscopedSems0 c : sProp 𝕄) = semVal (cel c none) 0 := by
    unfold unscopedSems0; rw [bigSep_eq_bigSepL_of_eq [SemLoc.reg barS] (by decide) (by decide)]; rfl
  rw [bigSep_opt, hu]
  rfl

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k : CI => iprop(∃ κ : ℕ, cellInv ER (rd m ρ) κ (cel c k)))
          ∗ (bigSep Finset.univ fun k : CI => reached ER (cel c k) 0) ∗ (bigSep Finset.univ fun k : CI => atPos ER (cel c k) 0 ∅ 0) ∗ ownToks c) := by
  unfold G
  iintro ⟨Hos, Hus, Hst, Hr, Hat, Htok⟩
  ihave Hv := (Entails.of_eq (sems0_eq (F := F) c).symm) $$ [Hos Hus]
  · isplitl [Hus] <;> iassumption
  imod (show iprop((bigSep Finset.univ fun k : CI => semVal (cel c k) 0) ∗ bigSep Finset.univ fun k : CI => roundState ER (rd m ρ) (cel c k) 0)
      ⊢ (|={Set.univ}=> bigSep Finset.univ fun k : CI => iprop(∃ κ : ℕ, cellInv ER (rd m ρ) κ (cel c k)) : sProp 𝕄) from by
        rw [← bigSep_sep']
        exact (bigSep_mono fun k _ => (Rounds.body_intro ER (rd m ρ) (cel c k)).trans inv_alloc).trans (bigSep_fupd _ _)) $$ [Hv Hst] with Hinv
  · isplitl [Hv] <;> iassumption
  imodintro
  isplitl [Hinv]; · iexact Hinv
  isplitl [Hr]; · iexact Hr
  isplitl [Hat]; · iexact Hat
  iexact Htok

theorem regroup :
    (bigSep Finset.univ fun c : Dev nD => iprop((bigSep Finset.univ fun k : CI => iprop(∃ κ : ℕ, cellInv ER (rd m ρ) κ (cel c k)))
          ∗ (bigSep Finset.univ fun k : CI => reached ER (cel c k) 0) ∗ (bigSep Finset.univ fun k : CI => atPos ER (cel c k) 0 ∅ 0) ∗ ownToks c) : sProp 𝕄)
      ⊢ bigSep Finset.univ (G' m ρ) := by
  rw [bigSep_sep', bigSep_sep', bigSep_sep', ← bigSep_univ_prod (fun ck : Dev nD × CI => iprop(∃ κ : ℕ, cellInv ER (rd m ρ) κ (cel ck.1 ck.2))),
    ← bigSep_univ_prod (fun ck : Dev nD × CI => (reached ER (cel ck.1 ck.2) 0 : sProp 𝕄))]
  unfold G' startCells
  rw [bigSep_sep', bigSep_sep']
  iintro ⟨HI, #HR, Hat, Htok⟩
  ihave HK := (BI.bigSep_exists_pi Finset.univ (fun (ck : Dev nD × CI) (κ : ℕ) => (cellInv ER (rd m ρ) κ (cel ck.1 ck.2) : sProp 𝕄))) $$ HI
  icases HK with ⟨%K, #HI⟩
  ihave Htk := (toks_around (F := F)) $$ Htok
  isplitr
  · iapply (show records m ρ K ⊢ bigSep Finset.univ fun _ : Dev nD => iprop(∃ K, records m ρ K) from
      (BI.bigSep_of_persistent (Finset.univ : Finset (Dev nD)) (records m ρ K)).trans (bigSep_mono fun _ _ => by
        show (_ : sProp 𝕄) ⊢ _
        iintro H
        iexists K
        iexact H))
    unfold records
    isplitl; · iexact HI
    iexact HR
  isplitl [Hat]; · iexact Hat
  iexact Htk

/-- Every device's cells allocated at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The credits -/

omit [FloatOps F] in
theorem launch_tally (c : Dev nD) (k : CI) (e : Fin 15) (n : ℕ) :
    (Pipeline.launchCred (fun d => tallyAt (cel (pe d e) k) () n) c : sProp 𝕄) ⊢ cred (tallyAt (cel c k) () n) :=
  Pipeline.launchCred_tallyAt (csem k) (fun d => pe d e) (fun d => pe d e.rev) (fun d => pe_pe' d e) (fun d => pe_pe d e) () n c

omit [FloatOps F] in
theorem launch_bar (c : Dev nD) (l : List (Fin 15)) :
    (Pipeline.launchCred (fun d => oweBar d l) c : sProp 𝕄) ⊢ cred (tallyAt (cel c none) () l.length) := by
  induction l with
  | nil =>
    show _ ⊢ cred (tallyAt (cel c none) () 0)
    rw [tallyAt_zero, cred_zero]
    exact Entails.of_eq (Pipeline.launchCred_zero c)
  | cons e l ih =>
    show Pipeline.launchCred (fun d => oweBar d l + tallyAt (cel (pe d e) none) () 1) c ⊢ _
    rw [Pipeline.launchCred_add, List.length_cons, ← tallyAt_add]
    exact (BI.sep_mono ih (launch_tally c none e 1)).trans (cred_add _ _).2

omit [FloatOps F] in
theorem launch_x (k : Kd) (c : Dev nD) (l : List (Fin 15)) (hl : l.Nodup) :
    (Pipeline.launchCred (fun d => oweX k d l) c : sProp 𝕄) ⊢ bigSep l.toFinset fun e => cred (tallyAt (cel c (some (k, e.rev))) () N) := by
  induction l with
  | nil =>
    show Pipeline.launchCred (fun _ => 0) c ⊢ _
    rw [Pipeline.launchCred_zero, List.toFinset_nil, bigSep_empty]; exact Entails.refl _
  | cons e l ih =>
    show Pipeline.launchCred (fun d => oweX k d l + tallyAt (cel (pe d e) (some (k, e.rev))) () N) c ⊢ _
    rw [Pipeline.launchCred_add, List.toFinset_cons, bigSep_insert (by rw [List.mem_toFinset]; exact (List.nodup_cons.mp hl).1)]
    exact (BI.sep_mono (ih (List.nodup_cons.mp hl).2) (launch_tally c _ e N)).trans BI.sep_comm

omit [FloatOps F] in
theorem creds (c : Dev nD) : (Pipeline.launchCred O₀ c : sProp 𝕄) ⊢ startCreds c := by
  have hup : up.toFinset = Finset.univ := by decide
  have hx (k : Kd) : (Pipeline.launchCred (fun d => oweX k d up) c : sProp 𝕄) ⊢ bigSep Finset.univ fun s : Fin 15 => cred (tallyAt (cel c (some (k, s))) () N) := by
    have h := launch_x (F := F) k c up (by decide)
    rw [hup] at h
    rw [bigSep_rev]
    exact h
  show Pipeline.launchCred (fun d => (oweX .r2 d up + oweX .r1 d up) + oweBar d up) c ⊢ _
  rw [Pipeline.launchCred_add, Pipeline.launchCred_add]
  unfold startCreds
  iintro ⟨⟨H2, H1⟩, HB⟩
  isplitl [HB]; · iapply (launch_bar (F := F) c up); iexact HB
  isplitl [H1]
  · iapply (hx .r1); iexact H1
  iapply (hx .r2); iexact H2

end Cert.Shift

end
-- ==== Proof.Run.lean ====
/-
The launch and the run: from any memory with zero counters every device finishes, with the windows' arrays at the
computed contents and every counter back at zero.
-/
module

public import proofs.«01_k».proof.Proof.BodyRun
public import proofs.«01_k».proof.Proof.Deal
public import proofs.«01_k».proof.Proof.Gen.KernelIdeal.Points
public import Idealize.ShloMosaic.Lib.Quiescent
public import Idealize.ShloMosaic.Lib.Pipeline.CollectiveSegs

@[expose] public section

noncomputable section

namespace Cert.Shift

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## What a device starts from and leaves -/

def start (c : Dev nD) : sProp 𝕄 := iprop((∃ K, ctx m ρ K) ∗ startCells c ∗ startCreds c)
def Φ₀ (c : Dev nD) : sProp 𝕄 := iprop(start m ρ c ∗ (∃ f, aAll (F := F) c f) ∗ ∃ f, rAll (F := F) c f)
def Φ₁ (c : Dev nD) : sProp 𝕄 :=
  iprop((∃ f, aAll (F := F) c f) ∗ (∃ f, rAll (F := F) c f) ∗ bigSep Finset.univ fun k : CI => semVal (cel c k) 0)

def dats (_ : Fin 1) (c : Dev nD) : Pipeline.Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outA m ρ
  Φ t := match t with
    | ⟨0, _⟩ => Φ₀ m ρ c
    | ⟨_ + 1, _⟩ => Φ₁ (F := F) c
  q _ := fullShare
  owed t := match t with
    | ⟨0, _⟩ => O₀ c
    | ⟨_ + 1, _⟩ => 0

omit [FloatOps F] in
theorem bigSep_W (Φ : Fin cfg0.W → sProp 𝕄) : bigSep Finset.univ Φ = iprop(Φ (0 : Fin 2) ∗ Φ (1 : Fin 2)) := bigSep_W0 Φ

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer held whole at given contents. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- The block as fetched is the argument array. -/
theorem xstg_eq (c : Dev nD) : xstg m ρ c = m ((c : Thread nD τ).loc main_arg0) := by
  have hz : (fun a => (win0_0.index (0 : Fin 1)) a * main_arg0.ty.shape.size a) = fun _ => 0 :=
    funext fun a => by fin_cases a <;> decide
  have hb : ∀ a, (win0_0.index (0 : Fin 1)) a * main_arg0.ty.shape.size a + main_arg0.ty.shape.size a ≤ main_arg0.ty.shape.size a := fun a => by
    fin_cases a <;> decide
  exact Memref.read_access_unit_zero (Elt F) main_arg0 hz hb _

theorem fetched_x (c : Dev nD) (d) : (dats (F := F) m ρ 0 c).fetched (0 : Fin 2) t0_0 d = xstg m ρ c := rfl

attribute [local irreducible] cc0_body outA xstg startCells startCreds ctx O₀

/-! ## The body obligation -/

set_option maxRecDepth 4000 in
def bodyPre (c : Dev nD) : sProp 𝕄 :=
  iprop(Φ₀ m ρ c ∗ (dats m ρ 0 c).owesAt () (t0_0 : Fin cfg0.N).castSucc
    ∗ (∃ d, stg c cc0_stg0_0 ((dats m ρ 0 c).before (0 : Fin 2) t0_0 d))
    ∗ (∃ d, stg c cc0_stg1_0 ((dats m ρ 0 c).before (1 : Fin 2) t0_0 d)))
def bodyPost (c : Dev nD) : sProp 𝕄 :=
  iprop(Φ₁ (F := F) c ∗ (dats m ρ 0 c).owesAt () (t0_0 : Fin cfg0.N).succ ∗ stg c cc0_stg0_0 (xstg m ρ c) ∗ stg c cc0_stg1_0 (outA m ρ))

theorem bodyPre_elim (c : Dev nD) : bodyPre m ρ c ⊢ iprop((∃ K, ctx m ρ K) ∗ bodyIn m ρ c) := by
  unfold bodyPre Φ₀ start bodyIn Pipeline.Dat.owesAt Pipeline.owesWithin ow xAll oAll
  iintro ⟨⟨⟨HK, Hcells, Hcreds⟩, Ha, Hr⟩, ⟨%W, %hW, HO⟩, ⟨%d0, %g0, %hg0, Hx⟩, ⟨%d1, %g1, %hg1, Hout⟩⟩
  have hx : g0 = xstg m ρ c := by rw [hg0]; unfold Pipeline.Dat.before; rw [if_pos (fetch0_0 t0_0)]; exact fetched_x m ρ c d0
  subst hx
  isplitl [HK]; · iexact HK
  isplitl [HO]; · iexists W; iexact HO
  isplitl [Hx]; · iexact Hx
  isplitl [Ha]; · iexact Ha
  isplitl [Hr]; · iexact Hr
  isplitl [Hout]; · iexists g1; iexact Hout
  isplitl [Hcells]; · iexact Hcells
  iexact Hcreds

theorem bodyPost_intro (c : Dev nD) : bodyOut m ρ c ⊢ bodyPost m ρ c := by
  unfold bodyPost Φ₁ bodyOut Pipeline.Dat.owesAt Pipeline.owesWithin ow xAll oAll
  iintro ⟨⟨%W, HO⟩, Hx, Ha, Hr, Hout, Hz⟩
  isplitl [Ha Hr Hz]
  · isplitl [Ha]; · iexact Ha
    isplitl [Hr]; · iexact Hr
    iexact Hz
  isplitl [HO]
  · iexists W
    isplitr; · ipureintro; exact fun _ _ => Or.inl trivial
    iexact HO
  isplitl [Hx]
  · iexists _; isplitr; · (ipureintro; rfl)
    iexact Hx
  iexists _; isplitr; · (ipureintro; rfl)
  iexact Hout

set_option maxRecDepth 100000 in
/-- The library's body obligation on device `c`. -/
theorem body_obligation (c : Dev nD) : Pipeline.BodyObligation (dats (F := F) m ρ 0 c) (defs₀ (F := F)) 𝒱₀ () Set.univ := fun t => by
  rw [show t = t0_0 from fin_N0 t]
  rw [bigSep_W, bigSep_W]
  simp only [owns_whole_eq]
  show bodyPre m ρ c ⊢ wp frame (wpE (defs₀ (F := F)) 𝒱₀ c none) Set.univ
    (cc0_body xM (Memref.isWhole_whole _) oM (Memref.isWhole_whole _) aM (Memref.isWhole_whole _) rM (Memref.isWhole_whole _) cc0_scratch2 cc0_scratch3)
    (fun _ => bodyPost m ρ c)
  rw [body_eq, wp_deviceId]
  refine (bodyPre_elim m ρ c).trans ?_
  show (_ : sProp 𝕄) ⊢ wpc c (bodyP c) (fun _ => bodyPost m ρ c)
  iintro ⟨⟨%K, HK⟩, Hin⟩
  iapply (body_run m ρ K c fun _ => bodyPost m ρ c)
  isplitl [HK]; · iexact HK
  isplitl [Hin]; · iexact Hin
  iintro Hout
  iapply (bodyPost_intro m ρ c)
  iexact Hout

/-! ## The launch's side conditions -/

theorem ownSemFacts : Pipeline.OwnSemFacts cfg0.spec osem := by decide +kernel

theorem share_eq (c : Dev nD) (w : Fin cfg0.W) : (dats m ρ 0 c).share w = fullShare := by unfold Pipeline.Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  unfold start G' ctx
  iintro ⟨-, Hlev, Hcr, -, ⟨%K, HK⟩, Hcells⟩
  ihave Hc := (creds (F := F) c) $$ Hcr
  imodintro
  isplitl
  · isplitl [HK Hlev]
    · iexists K
      isplitl [HK]
      · iapply (show records m ρ K ⊢ iprop((bigSep Finset.univ fun ck : Dev nD × CI => cellInv ER (rd m ρ) (K ck) (cel ck.1 ck.2))
          ∗ bigSep Finset.univ fun ck : Dev nD × CI => reached ER (cel ck.1 ck.2) 0) from Entails.refl _)
        iexact HK
      iexact Hlev
    isplitl [Hcells]; · iexact Hcells
    iexact Hc
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ aAll rAll
  iintro ⟨Hs, -, Ha, Hr⟩
  isplitl [Hs]; · iexact Hs
  isplitl [Ha]; · iexact Ha
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ (F := F) c from rfl, scopedRest0_eq]
  unfold Φ₁ aAll rAll
  rw [sems0_eq]
  iintro ⟨Ha, Hr, Hu, Ho⟩
  isplitl [Hu]; · iexact Hu
  isplitl [Ho]; · iexact Ho
  isplitl [Ha]; · iexact Ha
  iexact Hr

theorem waits (c : Dev nD) : (levAts L lv : sProp 𝕄) ⊢ Pipeline.cellsWaits cfgs (dats m ρ) () 0 c :=
  Pipeline.cellsWaits_intro cfgs (dats m ρ) () 0 c fun w s t =>
    mayWait c _ (n := 0) (by fin_cases w <;> fin_cases s <;> exact Nat.le_refl 0) (by
      rcases t with ⟨_ | _, ht⟩
      · exact above_O₀ c
      · exact above_zero 0)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 100000 in
/-- For any float values, from any memory with zero counters, every weakly fair execution terminates, with each device's
    argument and result arrays at the computed contents and every counter at zero. -/
theorem run_all : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_all m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-! ## The final arrays -/

theorem finalA_x (c : Dev nD) : finalA m ρ c (0 : Fin 2) = (s₀ m ρ).mem (win0_0.arr.view.loc (c : Thread nD τ)) :=
  (dats (F := F) m ρ 0 c).arrAt_in (0 : Fin 2) rfl _

theorem finalA_o (c : Dev nD) : (win0_1.blk (0 : Fin 1)).view.read (Elt F) (finalA m ρ c (1 : Fin 2)) = outA m ρ := by
  unfold finalA
  rw [show cfg0.N = ((0 : Fin 1) : Fin cfg0.N).val + 1 from rfl, (dats m ρ 0 c).arrAt_succ (1 : Fin 2) (0 : Fin 1)]
  rw [show (cfg0.win (1 : Fin 2)).flush (0 : Fin 1) = true from flush0_1 _, if_pos rfl]
  exact View.read_write_univ _ _

theorem result_eq (c : Dev nD) : finalA m ρ c (1 : Fin 2) = outA m ρ := by
  have hz : (fun a => (win0_1.index (0 : Fin 1)) a * main_v1.ty.shape.size a) = fun _ => 0 :=
    funext fun a => by fin_cases a <;> decide
  have hb : ∀ a, (win0_1.index (0 : Fin 1)) a * main_v1.ty.shape.size a + main_v1.ty.shape.size a ≤ main_v1.ty.shape.size a := fun a => by
    fin_cases a <;> decide
  have hr := fun f => Memref.read_access_unit_zero (Elt F) main_v1 hz hb f
  have ho := finalA_o m ρ c
  rw [hr] at ho
  exact ho

/-- The run, said of the program's buffers. -/
theorem run_main : θ_run defs (onTc (τ := τ) (main (F := F))) (s₀ m ρ) (fun r =>
    (∀ c : Dev nD, r.2.mem ((c.tc : Thread nD τ).loc main_v1) = outA m ρ
      ∧ r.2.mem ((c.tc : Thread nD τ).loc main_arg0) = m ((c.tc : Thread nD τ).loc main_arg0)) ∧ r.2.sem = fun _ => 0) :=
  (θ_run defs _ _).mono (fun _ h => ⟨fun c => ⟨(h.1 c (1 : Fin 2)).trans (result_eq m ρ c), (h.1 c (0 : Fin 2)).trans (finalA_x m ρ c)⟩, h.2⟩) (run_all m ρ)

end Cert.Shift

end
-- ==== Proof.Same.lean ====
/-
The kernel as printed and its idealization have the same text: their body tables are equal, at any float values.
-/
module

public import proofs.«01_k».proof.Proof.Gen.Kernel
public import proofs.«01_k».proof.Proof.Gen.KernelIdeal

@[expose] public section

noncomputable section

namespace Cert.Shift

open Idealize.ShloMosaic

variable {F : FTy → Type} [FloatOps F]

attribute [local instance] Cert.Kernel.Gen.facts Cert.KernelIdeal.Gen.facts

set_option maxRecDepth 100000 in
theorem body_same : @Cert.Kernel.cc0_body F _ _ = @Cert.KernelIdeal.cc0_body F _ _ := rfl

theorem bodies_same : @Cert.Kernel.defs₀ F _ _ = @Cert.KernelIdeal.defs₀ F _ _ := by
  unfold Cert.Kernel.defs₀ Cert.KernelIdeal.defs₀
  rw [body_same]
  refine congrArg Defs.onTc (funext fun l => funext fun a => ?_)
  match l, a with
  | 0, (_, _) => rfl

/-- The two programs run from one table. -/
theorem defs_same : @Cert.Kernel.defs F _ _ = @Cert.KernelIdeal.defs F _ _ :=
  congrArg (Pipeline.defs Cert.KernelIdeal.pcfgs) bodies_same

end Cert.Shift

end
-- ==== Proof.Value.lean ====
/-
The value: over the extended reals, what the devices leave in their results is the sum of their blocks, element by
element, and so the reference's reduction of the whole array.
-/
module

public import proofs.«01_k».proof.Proof.Run
public import proofs.«01_k».proof.Proof.Gen.ReferenceIdeal.Run
public import Idealize.ShloMosaic.Lib.ValueIdx
public import Idealize.ShloMosaic.Lib.Layout
public import Idealize.ShloMosaic.Lib.Pipeline.Value
public import Idealize.ShloMosaic.Lib.Pointwise
public import Idealize.ShloMosaic.PureOps.Ideal.Laws

@[expose] public section

noncomputable section

namespace Cert.Shift

open Cert.KernelIdeal Cert.KernelIdeal.Gen
open Idealize.ShloMosaic Idealize.ShloMosaic.ValueIdx
open Idealize.ShloMosaic.TcCoe
open Idealize.SL Idealize.SL.Sem

section Generic

variable {F : FTy → Type} [FloatOps F]
variable (m : (ℓ : Loc nD τ sig) → Buf (Elt F) ℓ) (ρ : Dev nD → PrngReg)

/-! ## Chunks read at an index -/

/-- Where element `x` of chunk `c` lies. -/
abbrev pos (c : Dev nD) (x : S32x512.Idx) : S512x512.Idx := (chM c).view.emb x

theorem exists_pos (i : S512x512.Idx) : ∃ x, pos (rowDev i) x = i := by
  obtain ⟨x, -, hx⟩ := Finset.mem_map.mp ((chM_set (rowDev i)).symm ▸ (mem_chR (rowDev i) i).mpr rfl : i ∈ (chM (rowDev i)).view.set)
  exact ⟨x, hx⟩

theorem rdA_pos (c : Dev nD) (f : Vec F S512x512 .bf16) (x : S32x512.Idx) : rdA c f x = f (pos c x) := rfl
theorem wrA_pos (c : Dev nD) (f : Vec F S512x512 .bf16) (v : Vec F S32x512 .bf16) (x : S32x512.Idx) : wrA c f v (pos c x) = v x :=
  View.write_emb_of_mem (v := aM.access (chR c)) (Val := Elt F) f v (Finset.mem_univ x)

theorem got_cast (c : Dev nD) (s : Fin 15) (h : S1x32x512.ShapeCasts S32x512) (x : S32x512.Idx) :
    shapeCast S32x512 (got m ρ c s) h x = acc0 m ρ (pe c s) (pos c x) := by
  have h1 : shapeCast S32x512 (got m ρ c s) h x = (slotM s).view.read (Elt F) (landR m ρ c s) x := rfl
  rw [h1]
  unfold landR
  rw [View.read_write_univ]
  rfl

theorem acc0_at (d : Dev nD) (i : S512x512.Idx) : acc0 m ρ d i = xstg m ρ d (Fin.cons ⟨0, Nat.one_pos⟩ i) := by
  unfold acc0 k0_pay1
  simp only [shapeCast_self]
  exact shapeCast_dropUnit_apply ![512, 512] (xstg m ρ d) _ i

end Generic

/-! ## The sum -/

variable (m : (ℓ : Loc nD τ sig) → Buf (Elt Ideal) ℓ) (ρ : Dev nD → PrngReg)

theorem sum_dev {M : Type} [AddCommMonoid M] (c : Dev nD) (f : Dev nD → M) : ∑ d, f d = f c + ∑ e : Fin 15, f (pe c e) := by
  rw [pe_cover c, Finset.sum_insert (by simp only [Finset.mem_map, Finset.mem_univ, true_and, not_exists]; exact fun e => pe_ne c e), Finset.sum_map]
  rfl

/-- What the device `s + 1` places on contributes to element `x` of chunk `c`. -/
abbrev cont (c : Dev nD) (s : Fin 15) (x : S32x512.Idx) : EReal := acc0 m ρ (pe c s) (pos c x)

theorem acc1_pos (c : Dev nD) (x : S32x512.Idx) : (acc1 m ρ c (pos c x) : EReal) =
    (((((acc0 m ρ c (pos c x) : EReal) + cont m ρ c 14 x) + cont m ρ c 13 x) + cont m ρ c 12 x) + cont m ρ c 11 x) + cont m ρ c 10 x := by
  unfold acc1 k0_pay4 k0_pay3 k0_pay2
  rw [wrA_pos]
  simp only [shapeCast_self, cont, ← got_cast m ρ c _ shapeCasts_S1x32x512_S32x512 x]
  rfl

theorem acc2_pos (c : Dev nD) (x : S32x512.Idx) : (acc2 m ρ c (pos c x) : EReal) =
    (((((acc1 m ρ c (pos c x) : EReal) + cont m ρ c 9 x) + cont m ρ c 8 x) + cont m ρ c 7 x) + cont m ρ c 6 x) + cont m ρ c 5 x := by
  unfold acc2 k0_pay6 k0_pay5
  rw [wrA_pos]
  simp only [shapeCast_self, cont, ← got_cast m ρ c _ shapeCasts_S1x32x512_S32x512 x]
  rw [← rdA_pos c (acc1 m ρ c) x]
  rfl

theorem acc3_pos (c : Dev nD) (x : S32x512.Idx) : (red m ρ c (pos c x) : EReal) =
    (((((acc2 m ρ c (pos c x) : EReal) + cont m ρ c 4 x) + cont m ρ c 3 x) + cont m ρ c 2 x) + cont m ρ c 1 x) + cont m ρ c 0 x := by
  unfold red k0_pay7
  rw [wrA_pos]
  simp only [shapeCast_self, cont, ← got_cast m ρ c _ shapeCasts_S1x32x512_S32x512 x]
  rw [← rdA_pos c (acc2 m ρ c) x]
  rfl

/-- The fifteen contributions in the order of the kernel's additions. -/
theorem sum_fifteen (a : EReal) (f : Fin 15 → EReal) :
    a + f 14 + f 13 + f 12 + f 11 + f 10 + f 9 + f 8 + f 7 + f 6 + f 5 + f 4 + f 3 + f 2 + f 1 + f 0 = a + ∑ s, f s := by
  rw [← Equiv.sum_comp Fin.revPerm f]
  simp only [Fin.sum_univ_castSucc, Fin.sum_univ_zero, zero_add, ← add_assoc]
  rfl

/-- A device's chunk, summed. -/
theorem red_pos (c : Dev nD) (x : S32x512.Idx) : (red m ρ c (pos c x) : EReal) = ∑ d : Dev nD, (acc0 m ρ d (pos c x) : EReal) := by
  rw [acc3_pos, acc2_pos, acc1_pos]
  exact (sum_fifteen _ fun s => cont m ρ c s x).trans (sum_dev c fun d => (acc0 m ρ d (pos c x) : EReal)).symm

/-- Every device's result at an index is the sum of the blocks there. -/
theorem outA_at (i : S512x512.Idx) : (outA m ρ i : EReal) = ∑ d : Dev nD, (xstg m ρ d (Fin.cons ⟨0, Nat.one_pos⟩ i) : EReal) := by
  obtain ⟨x, hx⟩ := exists_pos i
  show red m ρ (rowDev i) i = _
  have h := red_pos m ρ (rowDev i) x
  rw [hx] at h
  exact h.trans (Finset.sum_congr rfl fun d _ => acc0_at m ρ d i)

/-! ## The reference -/

/-- The reference's result from the whole array. -/
abbrev total (X : (⟨3, ![16, 512, 512]⟩ : Shape).Idx → EReal) : S512x512.Idx → EReal :=
  truncf (F := Ideal) .bf16 (Host.reduceAdd (extf (F := Ideal) .f32 (X : FVec Ideal _ .bf16) Cert.ReferenceIdeal.Gen.bitsLt_bf16_f32)
    (constant (F := Ideal) Cert.ReferenceIdeal.S_ .f32 0x00000000#32) Cert.ReferenceIdeal.Gen.reducesTo_S16x512x512_S512x512_d0 Cert.ReferenceIdeal.Gen.h_S_)
    Cert.ReferenceIdeal.Gen.bitsLt_bf16_f32

theorem total_at (X : (⟨3, ![16, 512, 512]⟩ : Shape).Idx → EReal) (i : S512x512.Idx) : total X i = ∑ d : Fin 16, X (ValueIdx.ix3 d (i 0) (i 1)) := by
  show Host.reduceAdd (F := Ideal) (X : FVec Ideal _ .f32) _ _ _ i = _
  rw [Host.reduceAdd_apply, Ideal.hostReduceAdd_def, Ideal.hostReduceAdd_r3_a0]
  refine (congrArg (· + _) Ideal.ofBits_zero_f32).trans ((zero_add _).trans ?_)
  rfl

theorem value (X : (⟨3, ![16, 512, 512]⟩ : Shape).Idx → EReal)
    (h : ∀ c : Dev nD, m ((c.tc : Thread nD τ).loc main_arg0) = Layout.block ⟨3, ![1, 512, 512]⟩ ⟨3, ![16, 512, 512]⟩ 0 16 c X) :
    outA m ρ = total X := by
  funext i
  refine (outA_at m ρ i).trans ((Finset.sum_congr rfl fun d _ => ?_).trans (total_at X i).symm)
  rw [xstg_eq, h d, Layout.block_apply]
  refine congrArg X (funext fun a => Fin.ext ?_)
  rw [Layout.Tiles.idx_val]
  fin_cases a
  · show d.val * 1 + 0 = d.val
    omega
  · rfl
  · rfl

end Cert.Shift

end
-- ==== Proof.lean ====
/-
The claims of this directory (Defs.lean): each program's frame, that the idealization rewrites nothing, and that over the
extended reals every device's result is the reference's sum. The kernel's run is proved once, over any float values
(Proof/Run.lean), and the value in Proof/Value.lean.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Run
public import proofs.«01_k».proof.Proof.Same
public import proofs.«01_k».proof.Proof.Value
public import Idealize.ShloMosaic.Adequacy
public import Idealize.ShloMosaic.Init

@[expose] public section

noncomputable section

namespace Cert.Proof

open Idealize.ShloMosaic Idealize.SL.Sem

/-- The frame, over any float values. -/
theorem frame_any {F : FTy → Type} [FloatOps F]
    (m : (ℓ : Loc Cert.KernelIdeal.nD Cert.KernelIdeal.τ Cert.KernelIdeal.sig) → Buf (Elt F) ℓ) (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r =>
      (∀ c : Dev Cert.KernelIdeal.nD, r.2.mem ((c.tc : Thread Cert.KernelIdeal.nD Cert.KernelIdeal.τ).loc Cert.KernelIdeal.main_arg0)
        = m ((c.tc : Thread Cert.KernelIdeal.nD Cert.KernelIdeal.τ).loc Cert.KernelIdeal.main_arg0)) ∧ r.2.sem = fun _ => 0) :=
  (θ_run Cert.KernelIdeal.defs _ _).mono (fun _ h => ⟨fun c => (h.1 c).2, h.2⟩) (Cert.Shift.run_main m ρ)

/-- The kernel's frame: its text is the idealization's, so the run over any float values is its run too. -/
theorem frame_kernel : Cert.quiescent_Kernel := fun m ρ _ => by
  rw [Cert.Shift.defs_same]
  exact frame_any (F := Bits) m ρ

theorem frame_kernelIdeal : Cert.quiescent_KernelIdeal := fun m ρ _ => frame_any (F := Ideal) m ρ

/-- The reference is a straight line of host operations and declares no semaphore. -/
theorem frame_referenceIdeal : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- Every device ends with the sum of the sixteen blocks, which is the reference's result. -/
theorem algebraic : Cert.algebraic_KernelIdeal_ReferenceIdeal := fun m ρ m' ρ' _ hag =>
  ⟨Cert.Shift.outA m ρ,
    (θ_run Cert.KernelIdeal.defs _ _).mono (fun _ h c => h.1 c) (Cert.Shift.run_main (F := Ideal) m ρ),
    (θ_run Cert.ReferenceIdeal.defs _ _).mono
      (fun _ h => ⟨(h 0).1.trans (Cert.Shift.value m ρ _ hag).symm, (h 0).2⟩)
      (Cert.ReferenceIdeal.Value.run (F := Ideal) m' ρ')⟩

theorem claim : Cert.Claim := ⟨Cert.Kernel.Gen.facts, Cert.KernelIdeal.Gen.facts, Cert.ReferenceIdeal.Gen.facts,
  frame_kernel, frame_kernelIdeal, frame_referenceIdeal, trivial, algebraic⟩

end Cert.Proof

end
